-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sizes_cover_rows [hPre_sizes_cover_rows : Cert.Pre_sizes_cover_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_cover_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_cover_rows [hPre_sizes_cover_rows : Cert.Pre_sizes_cover_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_cover_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sizes_cover_rows [hKernelIdeal : Cert.KernelIdeal.Facts] [hPre_sizes_cover_rows : Cert.Pre_sizes_cover_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes_cover_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_cover_rows [hReferenceIdeal : Cert.ReferenceIdeal.Facts] [hPre_sizes_cover_rows : Cert.Pre_sizes_cover_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_cover_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_sizes_cover_rows [hKernelIdeal : Cert.KernelIdeal.Facts] [hReferenceIdeal : Cert.ReferenceIdeal.Facts] [hPre_sizes_cover_rows : Cert.Pre_sizes_cover_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sizes_cover_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_cover_rows : Cert.Pre_sizes_cover_rows.Facts),
    quiescent_Kernel (hKernel := hKernel)
    ∧ quiescent_KernelIdeal (hKernelIdeal := hKernelIdeal)
    ∧ quiescent_KernelIdeal_pre_sizes_cover_rows (hKernelIdeal := hKernelIdeal) (hPre_sizes_cover_rows := hPre_sizes_cover_rows)
    ∧ quiescent_ReferenceIdeal (hReferenceIdeal := hReferenceIdeal)
    ∧ quiescent_ReferenceIdeal_pre_sizes_cover_rows (hReferenceIdeal := hReferenceIdeal) (hPre_sizes_cover_rows := hPre_sizes_cover_rows)
    ∧ preserves_Kernel_KernelIdeal
    ∧ algebraic_KernelIdeal_ReferenceIdeal_pre_sizes_cover_rows (hKernelIdeal := hKernelIdeal) (hReferenceIdeal := hReferenceIdeal) (hPre_sizes_cover_rows := hPre_sizes_cover_rows)
-- ==== Pre_sizes_cover_rows.lean ====
abbrev S12288x1536 : Shape := ⟨2, ![12288, 1536]⟩
abbrev S12288x1 : Shape := ⟨2, ![12288, 1]⟩
abbrev S16 : Shape := ⟨1, ![16]⟩
abbrev S16x1536x4096 : Shape := ⟨3, ![16, 1536, 4096]⟩
abbrev S16x4096 : Shape := ⟨2, ![16, 4096]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S12288x1536 .fp8e4m3) (main_arg1 : FVec F S12288x1 .f32) (main_arg2 : IVec S16 32) (main_arg3 : FVec F S16x1536x4096 .fp8e4m3) (main_arg4 : FVec F S16x4096 .f32) : IVec S_ 1 :=
  let main_c : IVec S_ 32 := constantI S_ 32 0#32
  let main_v0 : IVec S16 32 := broadcastInDim S16 ![] bcast_S_S16 main_c
  let main_v1 : IVec S16 1 := cmpi .sge main_arg2 main_v0
  let main_c_0 : IVec S_ 32 := constantI S_ 32 12288#32
  let main_v2 : IVec S16 32 := broadcastInDim S16 ![] bcast_S_S16 main_c_0
  let main_v3 : IVec S16 1 := cmpi .sle main_arg2 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S_ 32 := (fun x v => Host.reduce IntOp.addi x v reducesTo_S16_S_d0 h_S_) main_arg2 main_c_2
  let main_c_3 : IVec S_ 32 := constantI S_ 32 12288#32
  let main_v7 : IVec S_ 1 := cmpi .eq main_v6 main_c_3
  let main_v8 : IVec S_ 1 := andi main_v5 main_v7
  main_v8
-- ==== Kernel.lean ====
abbrev S12288x1536 : Shape := ⟨2, ![12288, 1536]⟩
abbrev S12288x1 : Shape := ⟨2, ![12288, 1]⟩
abbrev S16 : Shape := ⟨1, ![16]⟩
abbrev S16x1536x4096 : Shape := ⟨3, ![16, 1536, 4096]⟩
abbrev S16x4096 : Shape := ⟨2, ![16, 4096]⟩
abbrev S_ : Shape := ⟨0, ![]⟩
abbrev S1 : Shape := ⟨1, ![1]⟩
abbrev S39 : Shape := ⟨1, ![39]⟩
abbrev S39x1 : Shape := ⟨2, ![39, 1]⟩
abbrev S1x16 : Shape := ⟨2, ![1, 16]⟩
abbrev S39x16 : Shape := ⟨2, ![39, 16]⟩
abbrev S16x1x4096 : Shape := ⟨3, ![16, 1, 4096]⟩
abbrev S12288x4096 : Shape := ⟨2, ![12288, 4096]⟩
abbrev S512x1536 : Shape := ⟨2, ![512, 1536]⟩
abbrev S512x1 : Shape := ⟨2, ![512, 1]⟩
abbrev S1x1536x4096 : Shape := ⟨3, ![1, 1536, 4096]⟩
abbrev S1x1x4096 : Shape := ⟨3, ![1, 1, 4096]⟩
abbrev S512x4096 : Shape := ⟨2, ![512, 4096]⟩
abbrev S128x1536 : Shape := ⟨2, ![128, 1536]⟩
abbrev S1x1536x512 : Shape := ⟨3, ![1, 1536, 512]⟩
abbrev S1536x512 : Shape := ⟨2, ![1536, 512]⟩
abbrev S128x512 : Shape := ⟨2, ![128, 512]⟩
abbrev S128x1 : Shape := ⟨2, ![128, 1]⟩
abbrev S1x1x512 : Shape := ⟨3, ![1, 1, 512]⟩
abbrev S1x512 : Shape := ⟨2, ![1, 512]⟩

abbrev nBuf : Space → Nat
  | .hbm => 135
  | .vmem => 10
  | .smem => 4
  | _ => 0

abbrev hbmTy0_0 (i : Nat) : BufTy := match i % 128 with
  | 0 => ⟨S12288x1536, .fp8e4m3⟩
  | 1 => ⟨S12288x1, .f32⟩
  | 2 => ⟨S16, .i32⟩
  | 3 => ⟨S16x1536x4096, .fp8e4m3⟩
  | 4 => ⟨S16x4096, .f32⟩
  | 5 => ⟨S_, .i32⟩
  | 6 => ⟨S_, .i32⟩
  | 7 => ⟨S16, .i32⟩
  | 8 => ⟨S16, .i32⟩
  | 9 => ⟨S_, .i32⟩
  | 10 => ⟨S_, .i32⟩
  | 11 => ⟨S16, .i32⟩
  | 12 => ⟨S16, .i32⟩
  | 13 => ⟨S16, .i32⟩
  | 14 => ⟨S_, .i32⟩
  | 15 => ⟨S16, .i32⟩
  | 16 => ⟨S16, .i1⟩
  | 17 => ⟨S16, .i32⟩
  | 18 => ⟨S16, .i32⟩
  | 19 => ⟨S_, .i32⟩
  | 20 => ⟨S16, .i32⟩
  | 21 => ⟨S16, .i1⟩
  | 22 => ⟨S16, .i1⟩
  | 23 => ⟨S_, .i32⟩
  | 24 => ⟨S16, .i32⟩
  | 25 => ⟨S16, .i32⟩
  | 26 => ⟨S16, .i32⟩
  | 27 => ⟨S_, .i32⟩
  | 28 => ⟨S16, .i32⟩
  | 29 => ⟨S16, .i32⟩
  | 30 => ⟨S_, .i32⟩
  | 31 => ⟨S_, .i32⟩
  | 32 => ⟨S16, .i32⟩
  | 33 => ⟨S16, .i32⟩
  | 34 => ⟨S16, .i32⟩
  | 35 => ⟨S_, .i32⟩
  | 36 => ⟨S16, .i32⟩
  | 37 => ⟨S16, .i1⟩
  | 38 => ⟨S16, .i32⟩
  | 39 => ⟨S16, .i32⟩
  | 40 => ⟨S_, .i32⟩
  | 41 => ⟨S16, .i32⟩
  | 42 => ⟨S16, .i1⟩
  | 43 => ⟨S16, .i1⟩
  | 44 => ⟨S_, .i32⟩
  | 45 => ⟨S16, .i32⟩
  | 46 => ⟨S16, .i32⟩
  | 47 => ⟨S16, .i32⟩
  | 48 => ⟨S_, .i32⟩
  | 49 => ⟨S16, .i32⟩
  | 50 => ⟨S16, .i1⟩
  | 51 => ⟨S16, .i32⟩
  | 52 => ⟨S_, .i32⟩
  | 53 => ⟨S16, .i32⟩
  | 54 => ⟨S16, .i32⟩
  | 55 => ⟨S_, .i32⟩
  | 56 => ⟨S_, .i32⟩
  | 57 => ⟨S16, .i32⟩
  | 58 => ⟨S16, .i32⟩
  | 59 => ⟨S_, .i32⟩
  | 60 => ⟨S_, .i32⟩
  | 61 => ⟨S16, .i32⟩
  | 62 => ⟨S16, .i32⟩
  | 63 => ⟨S1, .i32⟩
  | 64 => ⟨S_, .i32⟩
  | 65 => ⟨S39, .i32⟩
  | 66 => ⟨S_, .i32⟩
  | 67 => ⟨S_, .i32⟩
  | 68 => ⟨S39, .i32⟩
  | 69 => ⟨S39, .i32⟩
  | 70 => ⟨S39x1, .i32⟩
  | 71 => ⟨S1x16, .i32⟩
  | 72 => ⟨S39x16, .i32⟩
  | 73 => ⟨S39x16, .i32⟩
  | 74 => ⟨S39x16, .i1⟩
  | 75 => ⟨S39x16, .i32⟩
  | 76 => ⟨S_, .i32⟩
  | 77 => ⟨S39, .i32⟩
  | 78 => ⟨S_, .i32⟩
  | 79 => ⟨S39, .i32⟩
  | 80 => ⟨S_, .i32⟩
  | 81 => ⟨S39, .i32⟩
  | 82 => ⟨S39, .i1⟩
  | 83 => ⟨S_, .i32⟩
  | 84 => ⟨S39, .i32⟩
  | 85 => ⟨S39, .i32⟩
  | 86 => ⟨S39, .i32⟩
  | 87 => ⟨S39x1, .i32⟩
  | 88 => ⟨S39, .i32⟩
  | 89 => ⟨S39, .i32⟩
  | 90 => ⟨S_, .i32⟩
  | 91 => ⟨S39, .i32⟩
  | 92 => ⟨S39, .i1⟩
  | 93 => ⟨S_, .i32⟩
  | 94 => ⟨S39, .i32⟩
  | 95 => ⟨S39, .i32⟩
  | 96 => ⟨S39, .i32⟩
  | 97 => ⟨S39x1, .i32⟩
  | 98 => ⟨S39, .i32⟩
  | 99 => ⟨S39, .i32⟩
  | 100 => ⟨S_, .i32⟩
  | 101 => ⟨S_, .i32⟩
  | 102 => ⟨S_, .i32⟩
  | 103 => ⟨S39, .i32⟩
  | 104 => ⟨S39, .i32⟩
  | 105 => ⟨S_, .i32⟩
  | 106 => ⟨S39, .i32⟩
  | 107 => ⟨S39, .i32⟩
  | 108 => ⟨S39, .i1⟩
  | 109 => ⟨S_, .i32⟩
  | 110 => ⟨S39, .i32⟩
  | 111 => ⟨S39, .i1⟩
  | 112 => ⟨S_, .i32⟩
  | 113 => ⟨S39, .i32⟩
  | 114 => ⟨S39, .i32⟩
  | 115 => ⟨S39, .i32⟩
  | 116 => ⟨S39x1, .i32⟩
  | 117 => ⟨S39, .i32⟩
  | 118 => ⟨S_, .i32⟩
  | 119 => ⟨S_, .i32⟩
  | 120 => ⟨S39, .i32⟩
  | 121 => ⟨S_, .i32⟩
  | 122 => ⟨S39, .i32⟩
  | 123 => ⟨S39, .i1⟩
  | 124 => ⟨S_, .i32⟩
  | 125 => ⟨S39, .i32⟩
  | 126 => ⟨S39, .i32⟩
  | 127 => ⟨S39, .i32⟩
  | _ => ⟨S12288x1536, .fp8e4m3⟩

abbrev hbmTy0_1 (i : Nat) : BufTy := match i % 128 with
  | 0 => ⟨S39x1, .i32⟩
  | 1 => ⟨S39, .i32⟩
  | 2 => ⟨S_, .i32⟩
  | 3 => ⟨S_, .i32⟩
  | 4 => ⟨S39, .i32⟩
  | 5 => ⟨S16x1x4096, .f32⟩
  | 6 => ⟨S12288x4096, .bf16⟩
  | _ => ⟨S12288x1536, .fp8e4m3⟩

abbrev hbmTy (i : Nat) : BufTy := match i / 128 with
  | 0 => hbmTy0_0 i
  | 1 => hbmTy0_1 i
  | _ => ⟨S12288x1536, .fp8e4m3⟩

abbrev bufTy : (tb : Table) → Fin (tcTables nBuf tb) → BufTy
  | .hbm, ⟨i, _⟩ => hbmTy i
  | .local _ .vmem, ⟨0, _⟩ => ⟨S512x1536, .fp8e4m3⟩
  | .local _ .vmem, ⟨1, _⟩ => ⟨S512x1536, .fp8e4m3⟩
  | .local _ .vmem, ⟨2, _⟩ => ⟨S512x1, .f32⟩
  | .local _ .vmem, ⟨3, _⟩ => ⟨S512x1, .f32⟩
  | .local _ .vmem, ⟨4, _⟩ => ⟨S1x1536x4096, .fp8e4m3⟩
  | .local _ .vmem, ⟨5, _⟩ => ⟨S1x1536x4096, .fp8e4m3⟩
  | .local _ .vmem, ⟨6, _⟩ => ⟨S1x1x4096, .f32⟩
  | .local _ .vmem, ⟨7, _⟩ => ⟨S1x1x4096, .f32⟩
  | .local _ .vmem, ⟨8, _⟩ => ⟨S512x4096, .bf16⟩
  | .local _ .vmem, ⟨9, _⟩ => ⟨S512x4096, .bf16⟩
  | .local _ .smem, ⟨0, _⟩ => ⟨S39, .i32⟩
  | .local _ .smem, ⟨1, _⟩ => ⟨S39, .i32⟩
  | .local _ .smem, ⟨2, _⟩ => ⟨S39, .i32⟩
  | .local _ .smem, ⟨3, _⟩ => ⟨S39, .i32⟩
  | _, _ => ⟨S12288x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_c : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_0 : Ref sig .tc := ⟨.hbm, 44, rfl⟩
abbrev main_call2_v12 : Ref sig .tc := ⟨.hbm, 45, rfl⟩
abbrev main_call2_v13 : Ref sig .tc := ⟨.hbm, 46, rfl⟩
abbrev main_v5 : Ref sig .tc := ⟨.hbm, 47, rfl⟩
abbrev main_c_2 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_c_3 : Ref sig .tc := ⟨.hbm, 52, rfl⟩
abbrev main_v9 : Ref sig .tc := ⟨.hbm, 53, rfl⟩
abbrev main_v10 : Ref sig .tc := ⟨.hbm, 54, rfl⟩
abbrev main_c_4 : Ref sig .tc := ⟨.hbm, 55, rfl⟩
abbrev main_call3_v0 : Ref sig .tc := ⟨.hbm, 56, rfl⟩
abbrev main_call3_v1 : Ref sig .tc := ⟨.hbm, 57, rfl⟩
abbrev main_v11 : Ref sig .tc := ⟨.hbm, 58, rfl⟩
abbrev main_call4_call0_c : Ref sig .tc := ⟨.hbm, 59, rfl⟩
abbrev main_call4_call0_v0 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_c_5 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_c_6 : Ref sig .tc := ⟨.hbm, 76, rfl⟩
abbrev main_v26 : Ref sig .tc := ⟨.hbm, 77, rfl⟩
abbrev main_c_7 : Ref sig .tc := ⟨.hbm, 78, rfl⟩
abbrev main_v27 : Ref sig .tc := ⟨.hbm, 79, rfl⟩
abbrev main_c_8 : Ref sig .tc := ⟨.hbm, 80, rfl⟩
abbrev main_v29 : Ref sig .tc := ⟨.hbm, 81, rfl⟩
abbrev main_v30 : Ref sig .tc := ⟨.hbm, 82, rfl⟩
abbrev main_c_9 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_c_10 : Ref sig .tc := ⟨.hbm, 90, rfl⟩
abbrev main_v37 : Ref sig .tc := ⟨.hbm, 91, rfl⟩
abbrev main_v38 : Ref sig .tc := ⟨.hbm, 92, rfl⟩
abbrev main_c_11 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_c_12 : Ref sig .tc := ⟨.hbm, 100, rfl⟩
abbrev main_c_13 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_v46 : Ref sig .tc := ⟨.hbm, 107, rfl⟩
abbrev main_v47 : Ref sig .tc := ⟨.hbm, 108, rfl⟩
abbrev main_c_14 : Ref sig .tc := ⟨.hbm, 109, rfl⟩
abbrev main_v48 : Ref sig .tc := ⟨.hbm, 110, rfl⟩
abbrev main_v49 : Ref sig .tc := ⟨.hbm, 111, rfl⟩
abbrev main_c_15 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_c_16 : Ref sig .tc := ⟨.hbm, 118, rfl⟩
abbrev main_call6_v0 : Ref sig .tc := ⟨.hbm, 119, rfl⟩
abbrev main_call6_v1 : Ref sig .tc := ⟨.hbm, 120, rfl⟩
abbrev main_c_17 : Ref sig .tc := ⟨.hbm, 121, rfl⟩
abbrev main_v56 : Ref sig .tc := ⟨.hbm, 122, rfl⟩
abbrev main_v57 : Ref sig .tc := ⟨.hbm, 123, rfl⟩
abbrev main_c_18 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_c_19 : Ref sig .tc := ⟨.hbm, 130, rfl⟩
abbrev main_call7_v0 : Ref sig .tc := ⟨.hbm, 131, rfl⟩
abbrev main_call7_v1 : Ref sig .tc := ⟨.hbm, 132, rfl⟩
abbrev main_v64 : Ref sig .tc := ⟨.hbm, 133, rfl⟩
abbrev main_v65 : Ref sig .tc := ⟨.hbm, 134, rfl⟩
abbrev main_v45 : Ref sig .tc := ⟨.smem, 0, rfl⟩
abbrev main_v28 : Ref sig .tc := ⟨.smem, 1, rfl⟩
abbrev main_v55 : Ref sig .tc := ⟨.smem, 2, rfl⟩
abbrev main_v63 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![39], ![false]⟩

abbrev pre0 : Pipeline.Prefetch sig := ⟨4, ![main_v45.idx, main_v28.idx, main_v55.idx, main_v63.idx], fun | 0 => main_v45.names | 1 => main_v28.names | 2 => main_v55.names | 3 => main_v63.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) (v4 : BitVec 32) (v6 : BitVec 32) : BitVec 1 :=
  let c512_i32 : BitVec 32 := 512#32
  let v2 : BitVec 32 := Scalar.muli v1 c512_i32
  let c0_i32 : BitVec 32 := 0#32
  let v7 : BitVec 32 := Scalar.addi v2 c0_i32
  let c128_i32 : BitVec 32 := 128#32
  let v8 : BitVec 32 := Scalar.addi v7 c128_i32
  let v9 : BitVec 1 := Scalar.cmpi .slt v4 v8
  let v10 : BitVec 1 := Scalar.cmpi .sgt v6 v7
  let v11 : BitVec 1 := Scalar.andi v9 v10
  let v12 : BitVec 1 := Scalar.cmpi .sle v4 v7
  let v13 : BitVec 1 := Scalar.cmpi .sge v6 v8
  let v14 : BitVec 1 := Scalar.andi v12 v13
  let v15 : BitVec 1 := Scalar.andi v11 v14
  let v16 : BitVec 32 := Scalar.extui v15
  let c0_i32_0 : BitVec 32 := 0#32
  let v17 : BitVec 1 := Scalar.cmpi .ne v16 c0_i32_0
  v17

def k0_cond2 (v1 : BitVec 32) (v4 : BitVec 32) (v6 : BitVec 32) : BitVec 1 :=
  let c512_i32 : BitVec 32 := 512#32
  let v2 : BitVec 32 := Scalar.muli v1 c512_i32
  let c0_i32 : BitVec 32 := 0#32
  let v7 : BitVec 32 := Scalar.addi v2 c0_i32
  let c128_i32 : BitVec 32 := 128#32
  let v8 : BitVec 32 := Scalar.addi v7 c128_i32
  let v9 : BitVec 1 := Scalar.cmpi .slt v4 v8
  let v10 : BitVec 1 := Scalar.cmpi .sgt v6 v7
  let v11 : BitVec 1 := Scalar.andi v9 v10
  let v12 : BitVec 1 := Scalar.cmpi .sle v4 v7
  let v18 : BitVec 1 := Scalar.cmpi .slt v6 v8
  let v19 : BitVec 1 := Scalar.andi v12 v18
  let v20 : BitVec 1 := Scalar.andi v11 v19
  let v21 : BitVec 32 := Scalar.extui v20
  let c0_i32_1 : BitVec 32 := 0#32
  let v22 : BitVec 1 := Scalar.cmpi .ne v21 c0_i32_1
  v22

def k0_cond3 (v1 : BitVec 32) (v4 : BitVec 32) (v6 : BitVec 32) : BitVec 1 :=
  let c512_i32 : BitVec 32 := 512#32
  let v2 : BitVec 32 := Scalar.muli v1 c512_i32
  let c0_i32 : BitVec 32 := 0#32
  let v7 : BitVec 32 := Scalar.addi v2 c0_i32
  let c128_i32 : BitVec 32 := 128#32
  let v8 : BitVec 32 := Scalar.addi v7 c128_i32
  let v9 : BitVec 1 := Scalar.cmpi .slt v4 v8
  let v10 : BitVec 1 := Scalar.cmpi .sgt v6 v7
  let v11 : BitVec 1 := Scalar.andi v9 v10
  let v23 : BitVec 1 := Scalar.cmpi .sgt v4 v7
  let v24 : BitVec 1 := Scalar.andi v11 v23
  let v25 : BitVec 32 := Scalar.extui v24
  let c0_i32_2 : BitVec 32 := 0#32
  let v26 : BitVec 1 := Scalar.cmpi .ne v25 c0_i32_2
  v26

def k0_cond4 (v1 : BitVec 32) (v4 : BitVec 32) (v6 : BitVec 32) : BitVec 1 :=
  let c512_i32 : BitVec 32 := 512#32
  let v2 : BitVec 32 := Scalar.muli v1 c512_i32
  let c128_i32_3 : BitVec 32 := 128#32
  let v27 : BitVec 32 := Scalar.addi v2 c128_i32_3
  let c128_i32_4 : BitVec 32 := 128#32
  let v28 : BitVec 32 := Scalar.addi v27 c128_i32_4
  let v29 : BitVec 1 := Scalar.cmpi .slt v4 v28
  let v30 : BitVec 1 := Scalar.cmpi .sgt v6 v27
  let v31 : BitVec 1 := Scalar.andi v29 v30
  let v32 : BitVec 1 := Scalar.cmpi .sle v4 v27
  let v33 : BitVec 1 := Scalar.cmpi .sge v6 v28
  let v34 : BitVec 1 := Scalar.andi v32 v33
  let v35 : BitVec 1 := Scalar.andi v31 v34
  let v36 : BitVec 32 := Scalar.extui v35
  let c0_i32_5 : BitVec 32 := 0#32
  let v37 : BitVec 1 := Scalar.cmpi .ne v36 c0_i32_5
  v37

def k0_cond5 (v1 : BitVec 32) (v4 : BitVec 32) (v6 : BitVec 32) : BitVec 1 :=
  let c512_i32 : BitVec 32 := 512#32
  let v2 : BitVec 32 := Scalar.muli v1 c512_i32
  let c128_i32_3 : BitVec 32 := 128#32
  let v27 : BitVec 32 := Scalar.addi v2 c128_i32_3
  let c128_i32_4 : BitVec 32 := 128#32
  let v28 : BitVec 32 := Scalar.addi v27 c128_i32_4
  let v29 : BitVec 1 := Scalar.cmpi .slt v4 v28
  let v30 : BitVec 1 := Scalar.cmpi .sgt v6 v27
  let v31 : BitVec 1 := Scalar.andi v29 v30
  let v32 : BitVec 1 := Scalar.cmpi .sle v4 v27
  let v38 : BitVec 1 := Scalar.cmpi .slt v6 v28
  let v39 : BitVec 1 := Scalar.andi v32 v38
  let v40 : BitVec 1 := Scalar.andi v31 v39
  let v41 : BitVec 32 := Scalar.extui v40
  let c0_i32_6 : BitVec 32 := 0#32
  let v42 : BitVec 1 := Scalar.cmpi .ne v41 c0_i32_6
  v42

def k0_cond6 (v1 : BitVec 32) (v4 : BitVec 32) (v6 : BitVec 32) : BitVec 1 :=
  let c512_i32 : BitVec 32 := 512#32
  let v2 : BitVec 32 := Scalar.muli v1 c512_i32
  let c128_i32_3 : BitVec 32 := 128#32
  let v27 : BitVec 32 := Scalar.addi v2 c128_i32_3
  let c128_i32_4 : BitVec 32 := 128#32
  let v28 : BitVec 32 := Scalar.addi v27 c128_i32_4
  let v29 : BitVec 1 := Scalar.cmpi .slt v4 v28
  let v30 : BitVec 1 := Scalar.cmpi .sgt v6 v27
  let v31 : BitVec 1 := Scalar.andi v29 v30
  let v43 : BitVec 1 := Scalar.cmpi .sgt v4 v27
  let v44 : BitVec 1 := Scalar.andi v31 v43
  let v45 : BitVec 32 := Scalar.extui v44
  let c0_i32_7 : BitVec 32 := 0#32
  let v46 : BitVec 1 := Scalar.cmpi .ne v45 c0_i32_7
  v46

def k0_cond7 (v1 : BitVec 32) (v4 : BitVec 32) (v6 : BitVec 32) : BitVec 1 :=
  let c512_i32 : BitVec 32 := 512#32
  let v2 : BitVec 32 := Scalar.muli v1 c512_i32
  let c256_i32 : BitVec 32 := 256#32
  let v47 : BitVec 32 := Scalar.addi v2 c256_i32
  let c128_i32_8 : BitVec 32 := 128#32
  let v48 : BitVec 32 := Scalar.addi v47 c128_i32_8
  let v49 : BitVec 1 := Scalar.cmpi .slt v4 v48
  let v50 : BitVec 1 := Scalar.cmpi .sgt v6 v47
  let v51 : BitVec 1 := Scalar.andi v49 v50
  let v52 : BitVec 1 := Scalar.cmpi .sle v4 v47
  let v53 : BitVec 1 := Scalar.cmpi .sge v6 v48
  let v54 : BitVec 1 := Scalar.andi v52 v53
  let v55 : BitVec 1 := Scalar.andi v51 v54
  let v56 : BitVec 32 := Scalar.extui v55
  let c0_i32_9 : BitVec 32 := 0#32
  let v57 : BitVec 1 := Scalar.cmpi .ne v56 c0_i32_9
  v57

def k0_cond8 (v1 : BitVec 32) (v4 : BitVec 32) (v6 : BitVec 32) : BitVec 1 :=
  let c512_i32 : BitVec 32 := 512#32
  let v2 : BitVec 32 := Scalar.muli v1 c512_i32
  let c256_i32 : BitVec 32 := 256#32
  let v47 : BitVec 32 := Scalar.addi v2 c256_i32
  let c128_i32_8 : BitVec 32 := 128#32
  let v48 : BitVec 32 := Scalar.addi v47 c128_i32_8
  let v49 : BitVec 1 := Scalar.cmpi .slt v4 v48
  let v50 : BitVec 1 := Scalar.cmpi .sgt v6 v47
  let v51 : BitVec 1 := Scalar.andi v49 v50
  let v52 : BitVec 1 := Scalar.cmpi .sle v4 v47
  let v58 : BitVec 1 := Scalar.cmpi .slt v6 v48
  let v59 : BitVec 1 := Scalar.andi v52 v58
  let v60 : BitVec 1 := Scalar.andi v51 v59
  let v61 : BitVec 32 := Scalar.extui v60
  let c0_i32_10 : BitVec 32 := 0#32
  let v62 : BitVec 1 := Scalar.cmpi .ne v61 c0_i32_10
  v62

def k0_cond9 (v1 : BitVec 32) (v4 : BitVec 32) (v6 : BitVec 32) : BitVec 1 :=
  let c512_i32 : BitVec 32 := 512#32
  let v2 : BitVec 32 := Scalar.muli v1 c512_i32
  let c256_i32 : BitVec 32 := 256#32
  let v47 : BitVec 32 := Scalar.addi v2 c256_i32
  let c128_i32_8 : BitVec 32 := 128#32
  let v48 : BitVec 32 := Scalar.addi v47 c128_i32_8
  let v49 : BitVec 1 := Scalar.cmpi .slt v4 v48
  let v50 : BitVec 1 := Scalar.cmpi .sgt v6 v47
  let v51 : BitVec 1 := Scalar.andi v49 v50
  let v63 : BitVec 1 := Scalar.cmpi .sgt v4 v47
  let v64 : BitVec 1 := Scalar.andi v51 v63
  let v65 : BitVec 32 := Scalar.extui v64
  let c0_i32_11 : BitVec 32 := 0#32
  let v66 : BitVec 1 := Scalar.cmpi .ne v65 c0_i32_11
  v66

def k0_cond10 (v1 : BitVec 32) (v4 : BitVec 32) (v6 : BitVec 32) : BitVec 1 :=
  let c512_i32 : BitVec 32 := 512#32
  let v2 : BitVec 32 := Scalar.muli v1 c512_i32
  let c384_i32 : BitVec 32 := 384#32
  let v67 : BitVec 32 := Scalar.addi v2 c384_i32
  let c128_i32_12 : BitVec 32 := 128#32
  let v68 : BitVec 32 := Scalar.addi v67 c128_i32_12
  let v69 : BitVec 1 := Scalar.cmpi .slt v4 v68
  let v70 : BitVec 1 := Scalar.cmpi .sgt v6 v67
  let v71 : BitVec 1 := Scalar.andi v69 v70
  let v72 : BitVec 1 := Scalar.cmpi .sle v4 v67
  let v73 : BitVec 1 := Scalar.cmpi .sge v6 v68
  let v74 : BitVec 1 := Scalar.andi v72 v73
  let v75 : BitVec 1 := Scalar.andi v71 v74
  let v76 : BitVec 32 := Scalar.extui v75
  let c0_i32_13 : BitVec 32 := 0#32
  let v77 : BitVec 1 := Scalar.cmpi .ne v76 c0_i32_13
  v77

def k0_cond11 (v1 : BitVec 32) (v4 : BitVec 32) (v6 : BitVec 32) : BitVec 1 :=
  let c512_i32 : BitVec 32 := 512#32
  let v2 : BitVec 32 := Scalar.muli v1 c512_i32
  let c384_i32 : BitVec 32 := 384#32
  let v67 : BitVec 32 := Scalar.addi v2 c384_i32
  let c128_i32_12 : BitVec 32 := 128#32
  let v68 : BitVec 32 := Scalar.addi v67 c128_i32_12
  let v69 : BitVec 1 := Scalar.cmpi .slt v4 v68
  let v70 : BitVec 1 := Scalar.cmpi .sgt v6 v67
  let v71 : BitVec 1 := Scalar.andi v69 v70
  let v72 : BitVec 1 := Scalar.cmpi .sle v4 v67
  let v78 : BitVec 1 := Scalar.cmpi .slt v6 v68
  let v79 : BitVec 1 := Scalar.andi v72 v78
  let v80 : BitVec 1 := Scalar.andi v71 v79
  let v81 : BitVec 32 := Scalar.extui v80
  let c0_i32_14 : BitVec 32 := 0#32
  let v82 : BitVec 1 := Scalar.cmpi .ne v81 c0_i32_14
  v82

def k0_cond12 (v1 : BitVec 32) (v4 : BitVec 32) (v6 : BitVec 32) : BitVec 1 :=
  let c512_i32 : BitVec 32 := 512#32
  let v2 : BitVec 32 := Scalar.muli v1 c512_i32
  let c384_i32 : BitVec 32 := 384#32
  let v67 : BitVec 32 := Scalar.addi v2 c384_i32
  let c128_i32_12 : BitVec 32 := 128#32
  let v68 : BitVec 32 := Scalar.addi v67 c128_i32_12
  let v69 : BitVec 1 := Scalar.cmpi .slt v4 v68
  let v70 : BitVec 1 := Scalar.cmpi .sgt v6 v67
  let v71 : BitVec 1 := Scalar.andi v69 v70
  let v83 : BitVec 1 := Scalar.cmpi .sgt v4 v67
  let v84 : BitVec 1 := Scalar.andi v71 v83
  let v85 : BitVec 32 := Scalar.extui v84
  let c0_i32_15 : BitVec 32 := 0#32
  let v86 : BitVec 1 := Scalar.cmpi .ne v85 c0_i32_15
  v86

def cc0_transform_0 (k0_off1_inb : ∀ i : grid0.Coords, ∀ a, (k0_off1 i) a + S1.size a ≤ S39.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S39) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S39.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S39) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S39.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S39) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S39.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S39) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S39.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S39) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S12288x1536 : Shape := ⟨2, ![12288, 1536]⟩
abbrev S12288x1 : Shape := ⟨2, ![12288, 1]⟩
abbrev S16 : Shape := ⟨1, ![16]⟩
abbrev S16x1536x4096 : Shape := ⟨3, ![16, 1536, 4096]⟩
abbrev S16x4096 : Shape := ⟨2, ![16, 4096]⟩
abbrev S_ : Shape := ⟨0, ![]⟩
abbrev S12288x4096 : Shape := ⟨2, ![12288, 4096]⟩
abbrev S1x1536x4096 : Shape := ⟨3, ![1, 1536, 4096]⟩
abbrev S1536x4096 : Shape := ⟨2, ![1536, 4096]⟩
abbrev S1 : Shape := ⟨1, ![1]⟩
abbrev S1x4096 : Shape := ⟨2, ![1, 4096]⟩

abbrev nBuf : Space → Nat
  | .hbm => 10
  | .vmem => 5
  | .smem => 2
  | _ => 0

abbrev bufTy : (tb : Table) → Fin (tcTables nBuf tb) → BufTy
  | .hbm, ⟨0, _⟩ => ⟨S12288x1536, .fp8e4m3⟩
  | .hbm, ⟨1, _⟩ => ⟨S12288x1, .f32⟩
  | .hbm, ⟨2, _⟩ => ⟨S16, .i32⟩
  | .hbm, ⟨3, _⟩ => ⟨S16x1536x4096, .fp8e4m3⟩
  | .hbm, ⟨4, _⟩ => ⟨S16x4096, .f32⟩
  | .hbm, ⟨5, _⟩ => ⟨S_, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S12288x4096, .bf16⟩
  | .local _ .vmem, ⟨0, _⟩ => ⟨S12288x1536, .fp8e4m3⟩
  | .local _ .vmem, ⟨1, _⟩ => ⟨S12288x1, .f32⟩
  | .local _ .vmem, ⟨2, _⟩ => ⟨S16x1536x4096, .fp8e4m3⟩
  | .local _ .vmem, ⟨3, _⟩ => ⟨S16x4096, .f32⟩
  | .local _ .vmem, ⟨4, _⟩ => ⟨S12288x4096, .bf16⟩
  | .local _ .smem, ⟨0, _⟩ => ⟨S16, .i32⟩
  | .local _ .smem, ⟨1, _⟩ => ⟨S16, .i32⟩
  | _, _ => ⟨S12288x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1536x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Entry.lean ====
/- What the kernel's one region finds: @main up to the region, the buffers' contents there (`V`), the four prefetched
   tables read off them (`tbl`), and each table as the body is handed it. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operations before the region, stretch by stretch. -/
abbrev hostLines : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13, hostOps0_14]

/-- Core `c`'s TensorCore buffers when the region is entered: after the host operations. -/
abbrev V (c : Dev nD) (b : Ref sig .tc) : Buf (Elt F) ((c : Thread nD τ).loc b) :=
  StableHlo.after (List.flatten hostLines) (fun b => m (c, b)) b

theorem hostLines_sub : (hostLines (F := F)).Forall fun ops => ops.Forall fun op => op.bufs ⊆ StableHlo.tcRefs τ sig := by
  simp only [hostLines, List.Forall]
  exact ⟨hostOps0_sub, hostOps0_1_sub, hostOps0_2_sub, hostOps0_3_sub, hostOps0_4_sub, hostOps0_5_sub, hostOps0_6_sub,
    hostOps0_7_sub, hostOps0_8_sub, hostOps0_9_sub, hostOps0_10_sub, hostOps0_11_sub, hostOps0_12_sub, hostOps0_13_sub,
    hostOps0_14_sub⟩

theorem hostLines_fresh : (hostLines (F := F)).Forall fun ops => ops.Forall fun op => op.fresh = ∅ := by
  simp only [hostLines, List.Forall]; repeat' constructor

set_option maxHeartbeats 800000 in
/-- @main up to the region: the stretches of host operations, then the region. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostLines hostLines_sub hostLines_fresh main_chain

end Cert.KernelIdeal.Hand
end
-- ==== Proof.Plan.lean ====
/- The work list the host computes before the region: which row tile, which expert and which rows each of the 39 grid
   steps works on, as functions of the group sizes alone, and that the four prefetched tables hold them. -/
module

public import proofs.«01_k».proof.Proof.Entry
public import Idealize.ShloMosaic.Lib.StableHlo.RunRead
public import Idealize.ShloMosaic.Lib.Routing.OpsSet
public import Idealize.ShloMosaic.Lib.Routing.Words

@[expose] public section

set_option maxRecDepth 16384

noncomputable section

namespace Cert.KernelIdeal.Hand

open Cert.KernelIdeal Cert.KernelIdeal.Gen
open Idealize.ShloMosaic Idealize.ShloMosaic.TcCoe
open Idealize.ShloMosaic.Routing (pyDiv)

/-- A scalar constant spread over the 16 experts. -/
def k16 (v : BitVec 32) : IVec S16 32 := broadcastInDim S16 ![] bcast_S_S16 (constantI S_ 32 v)
/-- A scalar constant spread over the 39 steps. -/
def k39 (v : BitVec 32) : IVec S39 32 := broadcastInDim S39 ![] bcast_S_S39 (constantI S_ 32 v)
/-- The running sum over the experts. -/
def cumW (x : IVec S16 32) : IVec S16 32 :=
  Host.reduceWindow IntOp.addi ![16] ![1] ![15] ![0] x (broadcastInDim S_ ![] bcast_S_S_ (constantI S_ 32 0#32))
    reduceWindows_S16_S16_w16s1p15_0 h_S_
/-- The element of a 16-entry table at each step's expert. -/
def takeW (x : IVec S16 32) (e : IVec S39 32) : IVec S39 32 :=
  Host.gather gather_S16_S39x1_S39_n_0_n_n_0_1_1 x
    (broadcastInDim S39x1 ![0] bcast_S39_S39x1_0 (select (cmpi .slt e (k39 0#32)) (addi e (k39 16#32)) e))

/-- Division of each entry by the 512 rows of a tile, rounded down. -/
def div512W (x : IVec S16 32) : IVec S16 32 := pyDiv bcast_S_S16 x (constantI S_ 32 512#32)
/-- How many row tiles each expert touches, from the sizes and the tiles of its first and of its last row. -/
def tilesOf (g first last : IVec S16 32) : IVec S16 32 :=
  select (cmpi .sgt g (k16 0#32)) (addi (subi last first) (k16 1#32)) (k16 0#32)
/-- How many work items there are, from the running count of them. -/
def totalOf (itemEnd : IVec S16 32) : IVec S_ 32 :=
  shapeCast S_ (extractStridedSlice S1 ![15] itemEnd slices_S16_S1_15) shapeCasts_S1_S_
/-- Each step's work item: the step, held at the last item once the items are used up. -/
def clampedOf (itemEnd : IVec S16 32) : IVec S39 32 :=
  minsi (iotaInDim S39 32 0) (broadcastInDim S39 ![] bcast_S_S39 (subi (totalOf itemEnd) (constantI S_ 32 1#32)))
/-- Each step's expert: the number of experts whose items all come before the step's. -/
def expertOf (itemEnd : IVec S16 32) : IVec S39 32 :=
  minsi (Host.reduce IntOp.addi (extui 32 (cmpi .sge
      (broadcastInDim S39x16 ![0, 1] bcast_S39x1_S39x16_0_1 (broadcastInDim S39x1 ![0] bcast_S39_S39x1_0 (clampedOf itemEnd)))
      (broadcastInDim S39x16 ![0, 1] bcast_S1x16_S39x16_0_1 (broadcastInDim S1x16 ![1] bcast_S16_S1x16_1 itemEnd))) natLt_1_32)
      (constantI S_ 32 0#32) reducesTo_S39x16_S39_d1 h_S_)
    (k39 15#32)
/-- Each step's row tile before it is held inside the array, -/
def rawTileOf (first itemEnd itemStart : IVec S16 32) : IVec S39 32 :=
  subi (addi (takeW first (expertOf itemEnd)) (clampedOf itemEnd)) (takeW itemStart (expertOf itemEnd))
/-- and held. -/
def heldW (x : IVec S39 32) : IVec S39 32 := minsi (k39 23#32) (maxsi (k39 0#32) x)
/-- Which steps have a work item of their own. -/
def liveOf (total : IVec S_ 32) : IVec S39 1 := cmpi .slt (iotaInDim S39 32 0) (broadcastInDim S39 ![] bcast_S_S39 total)
/-- An entry per step where the step has a work item, zero elsewhere. -/
def whereW (l : IVec S39 1) (x : IVec S39 32) : IVec S39 32 := select l x (k39 0#32)

section
variable (g : IVec S16 32)
/-- One past each expert's last row, and its first row. -/
def endsW : IVec S16 32 := cumW g
def startsW : IVec S16 32 := subi (endsW g) g
/-- The row tile of each expert's first row and of its last row. -/
def firstW : IVec S16 32 := div512W (startsW g)
def lastW : IVec S16 32 := div512W (subi (endsW g) (k16 1#32))
/-- The running count of work items with and without each expert's own. -/
def tilesW : IVec S16 32 := tilesOf g (firstW g) (lastW g)
def itemEndW : IVec S16 32 := cumW (tilesW g)
def itemStartW : IVec S16 32 := subi (itemEndW g) (tilesW g)
/-- The four tables: each step's tile, expert, and the rows it may write (none once the items are used up). -/
def tileW : IVec S39 32 := heldW (rawTileOf (firstW g) (itemEndW g) (itemStartW g))
def expertW : IVec S39 32 := expertOf (itemEndW g)
def loW : IVec S39 32 := whereW (liveOf (totalOf (itemEndW g))) (takeW (startsW g) (expertW g))
def hiW : IVec S39 32 := whereW (liveOf (totalOf (itemEndW g))) (takeW (endsW g) (expertW g))
end

variable {F : FTy → Type} [FloatOps F]

/-! ## What each stretch of host operations leaves, off any contents it starts from -/

section Lines
variable (W : Valuation τ sig (Elt F))

/-- The contents of a TensorCore reference in a valuation. -/
abbrev rd (W : Valuation τ sig (Elt F)) (r : Ref sig .tc) := W (Proc.devRef .tc r)

theorem line0_v0 : rd (StableHlo.after hostOps0 W) main_v0 = cumW (rd W main_arg2) := by
  after_reads_simp
  unfold cumW
  congr 1
theorem line1_v1 : rd (StableHlo.after hostOps0_1 W) main_v1 = subi (rd W main_v0 : IVec S16 32) (rd W main_arg2 : IVec S16 32) := by
  after_reads_simp
theorem line12_v2 : rd (StableHlo.after hostOps0_2 (StableHlo.after hostOps0_1 W)) main_v2
    = div512W (subi (rd W main_v0 : IVec S16 32) (rd W main_arg2 : IVec S16 32)) := by
  after_reads_simp
  rfl
theorem line34_v5 : rd (StableHlo.after hostOps0_4 (StableHlo.after hostOps0_3 W)) main_v5
    = div512W (subi (rd W main_v0 : IVec S16 32) (k16 1#32)) := by
  after_reads_simp
  rfl
theorem line56_v11 : rd (StableHlo.after hostOps0_6 (StableHlo.after hostOps0_5 W)) main_v11
    = tilesOf (rd W main_arg2) (rd W main_v2) (rd W main_v5) := by
  after_reads_simp
  rfl
theorem line7_v12 : rd (StableHlo.after hostOps0_7 W) main_v12 = cumW (rd W main_v11) := by
  after_reads_simp
  unfold cumW
  congr 1
theorem line8_v15 : rd (StableHlo.after hostOps0_8 W) main_v15 = totalOf (rd W main_v12) := by
  after_reads_simp
  rfl
theorem line8_v16 : rd (StableHlo.after hostOps0_8 W) main_v16 = (iotaInDim S39 32 0 : IVec S39 32) := by
  after_reads_simp
theorem line8_v28 : rd (StableHlo.after hostOps0_8 W) main_v28 = expertOf (rd W main_v12) := by
  after_reads_simp
  rfl
theorem line8_v44 : rd (StableHlo.after hostOps0_8 W) main_v44
    = rawTileOf (rd W main_v2) (rd W main_v12) (subi (rd W main_v12 : IVec S16 32) (rd W main_v11 : IVec S16 32)) := by
  after_reads_simp
  rfl
theorem line89_v45 : rd (StableHlo.after hostOps0_9 (StableHlo.after hostOps0_8 W)) main_v45
    = heldW (rd (StableHlo.after hostOps0_8 W) main_v44) := by
  after_reads_simp
  rfl
theorem line1011_v55 : rd (StableHlo.after hostOps0_11 (StableHlo.after hostOps0_10 W)) main_v55
    = whereW (cmpi .slt (rd W main_v16 : IVec S39 32) (broadcastInDim S39 ![] bcast_S_S39 (rd W main_v15 : IVec S_ 32)))
        (takeW (rd W main_v1) (rd W main_v28)) := by
  after_reads_simp
  rfl
theorem line1213_v63 : rd (StableHlo.after hostOps0_13 (StableHlo.after hostOps0_12 W)) main_v63
    = whereW (rd W main_v47) (takeW (rd W main_v0) (rd W main_v28)) := by
  after_reads_simp
  rfl
theorem line10_v47 : rd (StableHlo.after hostOps0_10 W) main_v47
    = cmpi .slt (rd W main_v16 : IVec S39 32) (broadcastInDim S39 ![] bcast_S_S39 (rd W main_v15 : IVec S_ 32)) := by
  after_reads_simp
  try rfl
theorem line14_v64 : rd (StableHlo.after hostOps0_14 W) main_v64
    = (shapeCast S16x1x4096 (rd W main_arg4 : FVec F S16x4096 .f32) shapeCasts_S16x4096_S16x1x4096 : FVec F S16x1x4096 .f32) := by
  after_reads_simp
  try rfl

/-! What each stretch leaves alone: every reference off the list of those it writes. -/

/-- The references stretch 0 writes. -/
abbrev wr0 : List (Ref sig .tc) :=
  [main_call0_call0_c, main_call0_call0_v0, main_v0]
theorem keep0 {r : Ref sig .tc} (hr : r ∉ wr0) : rd (StableHlo.after hostOps0 W) r = rd W r :=
  StableHlo.after_unwritten wr0 rfl hr W
/-- The references stretch 1 writes. -/
abbrev wr1 : List (Ref sig .tc) :=
  [main_v1, main_c]
theorem keep1 {r : Ref sig .tc} (hr : r ∉ wr1) : rd (StableHlo.after hostOps0_1 W) r = rd W r :=
  StableHlo.after_unwritten wr1 rfl hr W
/-- The references stretch 2 writes. -/
abbrev wr2 : List (Ref sig .tc) :=
  [main_call1_v0, main_call1_v1, main_call1_v2, main_call1_v3, main_call1_v4, main_call1_v5, main_call1_v6,
      main_call1_v7, main_call1_v8, main_call1_c, main_call1_v9, main_call1_v10, main_call1_v11, main_call1_c_0,
      main_call1_v12, main_call1_v13, main_v2]
theorem keep2 {r : Ref sig .tc} (hr : r ∉ wr2) : rd (StableHlo.after hostOps0_2 W) r = rd W r :=
  StableHlo.after_unwritten wr2 rfl hr W
/-- The references stretch 3 writes. -/
abbrev wr3 : List (Ref sig .tc) :=
  [main_c_0, main_v3, main_v4, main_c_1]
theorem keep3 {r : Ref sig .tc} (hr : r ∉ wr3) : rd (StableHlo.after hostOps0_3 W) r = rd W r :=
  StableHlo.after_unwritten wr3 rfl hr W
/-- The references stretch 4 writes. -/
abbrev wr4 : List (Ref sig .tc) :=
  [main_call2_v0, main_call2_v1, main_call2_v2, main_call2_v3, main_call2_v4, main_call2_v5, main_call2_v6,
      main_call2_v7, main_call2_v8, main_call2_c, main_call2_v9, main_call2_v10, main_call2_v11, main_call2_c_0,
      main_call2_v12, main_call2_v13, main_v5]
theorem keep4 {r : Ref sig .tc} (hr : r ∉ wr4) : rd (StableHlo.after hostOps0_4 W) r = rd W r :=
  StableHlo.after_unwritten wr4 rfl hr W
/-- The references stretch 5 writes. -/
abbrev wr5 : List (Ref sig .tc) :=
  [main_c_2, main_v6, main_v7, main_v8, main_c_3, main_v9, main_v10, main_c_4]
theorem keep5 {r : Ref sig .tc} (hr : r ∉ wr5) : rd (StableHlo.after hostOps0_5 W) r = rd W r :=
  StableHlo.after_unwritten wr5 rfl hr W
/-- The references stretch 6 writes. -/
abbrev wr6 : List (Ref sig .tc) :=
  [main_call3_v0, main_call3_v1, main_v11]
theorem keep6 {r : Ref sig .tc} (hr : r ∉ wr6) : rd (StableHlo.after hostOps0_6 W) r = rd W r :=
  StableHlo.after_unwritten wr6 rfl hr W
/-- The references stretch 7 writes. -/
abbrev wr7 : List (Ref sig .tc) :=
  [main_call4_call0_c, main_call4_call0_v0, main_v12]
theorem keep7 {r : Ref sig .tc} (hr : r ∉ wr7) : rd (StableHlo.after hostOps0_7 W) r = rd W r :=
  StableHlo.after_unwritten wr7 rfl hr W
/-- The references stretch 8 writes. -/
abbrev wr8 : List (Ref sig .tc) :=
  [main_v13, main_v14, main_v15, main_v16, main_c_5, main_v17, main_v18, main_v19, main_v20, main_v21,
      main_v22, main_v23, main_v24, main_v25, main_c_6, main_v26, main_c_7, main_v27, main_v28, main_c_8,
      main_v29, main_v30, main_c_9, main_v31, main_v32, main_v33, main_v34, main_v35, main_v36, main_c_10,
      main_v37, main_v38, main_c_11, main_v39, main_v40, main_v41, main_v42, main_v43, main_v44, main_c_12,
      main_c_13]
theorem keep8 {r : Ref sig .tc} (hr : r ∉ wr8) : rd (StableHlo.after hostOps0_8 W) r = rd W r :=
  StableHlo.after_unwritten wr8 rfl hr W
/-- The references stretch 9 writes. -/
abbrev wr9 : List (Ref sig .tc) :=
  [main_call5_v0, main_call5_v1, main_call5_v2, main_call5_v3, main_call5_v4, main_v45]
theorem keep9 {r : Ref sig .tc} (hr : r ∉ wr9) : rd (StableHlo.after hostOps0_9 W) r = rd W r :=
  StableHlo.after_unwritten wr9 rfl hr W
/-- The references stretch 10 writes. -/
abbrev wr10 : List (Ref sig .tc) :=
  [main_v46, main_v47, main_c_14, main_v48, main_v49, main_c_15, main_v50, main_v51, main_v52, main_v53,
      main_v54, main_c_16]
theorem keep10 {r : Ref sig .tc} (hr : r ∉ wr10) : rd (StableHlo.after hostOps0_10 W) r = rd W r :=
  StableHlo.after_unwritten wr10 rfl hr W
/-- The references stretch 11 writes. -/
abbrev wr11 : List (Ref sig .tc) :=
  [main_call6_v0, main_call6_v1, main_v55]
theorem keep11 {r : Ref sig .tc} (hr : r ∉ wr11) : rd (StableHlo.after hostOps0_11 W) r = rd W r :=
  StableHlo.after_unwritten wr11 rfl hr W
/-- The references stretch 12 writes. -/
abbrev wr12 : List (Ref sig .tc) :=
  [main_c_17, main_v56, main_v57, main_c_18, main_v58, main_v59, main_v60, main_v61, main_v62, main_c_19]
theorem keep12 {r : Ref sig .tc} (hr : r ∉ wr12) : rd (StableHlo.after hostOps0_12 W) r = rd W r :=
  StableHlo.after_unwritten wr12 rfl hr W
/-- The references stretch 13 writes. -/
abbrev wr13 : List (Ref sig .tc) :=
  [main_call7_v0, main_call7_v1, main_v63]
theorem keep13 {r : Ref sig .tc} (hr : r ∉ wr13) : rd (StableHlo.after hostOps0_13 W) r = rd W r :=
  StableHlo.after_unwritten wr13 rfl hr W
/-- The references stretch 14 writes. -/
abbrev wr14 : List (Ref sig .tc) :=
  [main_v64]
theorem keep14 {r : Ref sig .tc} (hr : r ∉ wr14) : rd (StableHlo.after hostOps0_14 W) r = rd W r :=
  StableHlo.after_unwritten wr14 rfl hr W
end Lines

/-! ## The contents after each stretch, and what the region finds -/

section Chain
variable (m : (ℓ : Loc nD τ sig) → Buf (Elt F) ℓ) (c : Dev nD)

/-- The contents of core `c` before the region, and after each stretch. -/
abbrev st : Valuation τ sig (Elt F) := fun b => m (c, b)
abbrev st0 : Valuation τ sig (Elt F) := StableHlo.after hostOps0 (st m c)
abbrev st1 : Valuation τ sig (Elt F) := StableHlo.after hostOps0_1 (st0 m c)
abbrev st2 : Valuation τ sig (Elt F) := StableHlo.after hostOps0_2 (st1 m c)
abbrev st3 : Valuation τ sig (Elt F) := StableHlo.after hostOps0_3 (st2 m c)
abbrev st4 : Valuation τ sig (Elt F) := StableHlo.after hostOps0_4 (st3 m c)
abbrev st5 : Valuation τ sig (Elt F) := StableHlo.after hostOps0_5 (st4 m c)
abbrev st6 : Valuation τ sig (Elt F) := StableHlo.after hostOps0_6 (st5 m c)
abbrev st7 : Valuation τ sig (Elt F) := StableHlo.after hostOps0_7 (st6 m c)
abbrev st8 : Valuation τ sig (Elt F) := StableHlo.after hostOps0_8 (st7 m c)
abbrev st9 : Valuation τ sig (Elt F) := StableHlo.after hostOps0_9 (st8 m c)
abbrev st10 : Valuation τ sig (Elt F) := StableHlo.after hostOps0_10 (st9 m c)
abbrev st11 : Valuation τ sig (Elt F) := StableHlo.after hostOps0_11 (st10 m c)
abbrev st12 : Valuation τ sig (Elt F) := StableHlo.after hostOps0_12 (st11 m c)
abbrev st13 : Valuation τ sig (Elt F) := StableHlo.after hostOps0_13 (st12 m c)
abbrev st14 : Valuation τ sig (Elt F) := StableHlo.after hostOps0_14 (st13 m c)

theorem after_app {l₁ l₂ : List (HloOp τ sig (Elt F))} (W : Valuation τ sig (Elt F)) :
    StableHlo.after (l₁ ++ l₂) W = StableHlo.after l₂ (StableHlo.after l₁ W) := by
  induction l₁ generalizing W with
  | nil => rfl
  | cons op l ih => exact ih _

theorem V_eq (r : Ref sig .tc) : V m c r = rd (st14 m c) r := by
  unfold V
  simp only [hostLines, List.flatten_cons, List.flatten_nil, List.append_nil, after_app]

/-- The group sizes. -/
abbrev sizes : IVec S16 32 := m ((c : Thread nD τ).loc main_arg2)

theorem v0_0 : rd (st0 m c) main_v0 = endsW (sizes m c) := by
  exact line0_v0 _
theorem arg2_0 : rd (st0 m c) main_arg2 = sizes m c :=
  (keep0 _ (by decide)).trans (rfl)
theorem v1_1 : rd (st1 m c) main_v1 = startsW (sizes m c) := by
  rw [line1_v1, v0_0, arg2_0]; rfl
theorem v2_2 : rd (st2 m c) main_v2 = firstW (sizes m c) := by
  rw [line12_v2, v0_0, arg2_0]; rfl
theorem v0_2 : rd (st2 m c) main_v0 = endsW (sizes m c) :=
  (keep2 _ (by decide)).trans ((keep1 _ (by decide)).trans (v0_0 m c))
theorem v5_4 : rd (st4 m c) main_v5 = lastW (sizes m c) := by
  rw [line34_v5, v0_2]; rfl
theorem arg2_4 : rd (st4 m c) main_arg2 = sizes m c :=
  (keep4 _ (by decide)).trans ((keep3 _ (by decide)).trans ((keep2 _ (by decide)).trans ((keep1 _ (by decide)).trans (arg2_0 m c))))
theorem v2_4 : rd (st4 m c) main_v2 = firstW (sizes m c) :=
  (keep4 _ (by decide)).trans ((keep3 _ (by decide)).trans (v2_2 m c))
theorem v11_6 : rd (st6 m c) main_v11 = tilesW (sizes m c) := by
  rw [line56_v11, arg2_4, v2_4, v5_4]; rfl
theorem v12_7 : rd (st7 m c) main_v12 = itemEndW (sizes m c) := by
  rw [line7_v12, v11_6]; rfl
theorem v11_7 : rd (st7 m c) main_v11 = tilesW (sizes m c) :=
  (keep7 _ (by decide)).trans (v11_6 m c)
theorem v2_7 : rd (st7 m c) main_v2 = firstW (sizes m c) :=
  (keep7 _ (by decide)).trans ((keep6 _ (by decide)).trans ((keep5 _ (by decide)).trans (v2_4 m c)))
theorem v15_8 : rd (st8 m c) main_v15 = totalOf (itemEndW (sizes m c)) := by
  rw [line8_v15, v12_7]
theorem v16_8 : rd (st8 m c) main_v16 = (iotaInDim S39 32 0 : IVec S39 32) := by
  exact line8_v16 _
theorem v28_8 : rd (st8 m c) main_v28 = expertW (sizes m c) := by
  rw [line8_v28, v12_7]; rfl
theorem v44_8 : rd (st8 m c) main_v44 = rawTileOf (firstW (sizes m c)) (itemEndW (sizes m c)) (itemStartW (sizes m c)) := by
  rw [line8_v44, v2_7, v12_7, v11_7]; rfl
theorem v45_9 : rd (st9 m c) main_v45 = tileW (sizes m c) := by
  rw [line89_v45, v44_8]; rfl
theorem v16_9 : rd (st9 m c) main_v16 = (iotaInDim S39 32 0 : IVec S39 32) :=
  (keep9 _ (by decide)).trans (v16_8 m c)
theorem v15_9 : rd (st9 m c) main_v15 = totalOf (itemEndW (sizes m c)) :=
  (keep9 _ (by decide)).trans (v15_8 m c)
theorem v28_9 : rd (st9 m c) main_v28 = expertW (sizes m c) :=
  (keep9 _ (by decide)).trans (v28_8 m c)
theorem v1_9 : rd (st9 m c) main_v1 = startsW (sizes m c) :=
  (keep9 _ (by decide)).trans ((keep8 _ (by decide)).trans ((keep7 _ (by decide)).trans ((keep6 _ (by decide)).trans ((keep5 _ (by decide)).trans ((keep4 _ (by decide)).trans ((keep3 _ (by decide)).trans ((keep2 _ (by decide)).trans (v1_1 m c))))))))
theorem v47_10 : rd (st10 m c) main_v47 = liveOf (totalOf (itemEndW (sizes m c))) := by
  rw [line10_v47, v16_9, v15_9]; rfl
theorem v55_11 : rd (st11 m c) main_v55 = loW (sizes m c) := by
  rw [line1011_v55, v16_9, v15_9, v1_9, v28_9]; rfl
theorem v47_11 : rd (st11 m c) main_v47 = liveOf (totalOf (itemEndW (sizes m c))) :=
  (keep11 _ (by decide)).trans (v47_10 m c)
theorem v28_11 : rd (st11 m c) main_v28 = expertW (sizes m c) :=
  (keep11 _ (by decide)).trans ((keep10 _ (by decide)).trans (v28_9 m c))
theorem v0_11 : rd (st11 m c) main_v0 = endsW (sizes m c) :=
  (keep11 _ (by decide)).trans ((keep10 _ (by decide)).trans ((keep9 _ (by decide)).trans ((keep8 _ (by decide)).trans ((keep7 _ (by decide)).trans ((keep6 _ (by decide)).trans ((keep5 _ (by decide)).trans ((keep4 _ (by decide)).trans ((keep3 _ (by decide)).trans (v0_2 m c)))))))))
theorem v63_13 : rd (st13 m c) main_v63 = hiW (sizes m c) := by
  rw [line1213_v63, v47_11, v0_11, v28_11]; rfl

theorem arg4_13 : rd (st13 m c) main_arg4 = m ((c : Thread nD τ).loc main_arg4) :=
  (keep13 _ (by decide)).trans ((keep12 _ (by decide)).trans ((keep11 _ (by decide)).trans ((keep10 _ (by decide)).trans ((keep9 _ (by decide)).trans ((keep8 _ (by decide)).trans ((keep7 _ (by decide)).trans ((keep6 _ (by decide)).trans ((keep5 _ (by decide)).trans ((keep4 _ (by decide)).trans ((keep3 _ (by decide)).trans ((keep2 _ (by decide)).trans ((keep1 _ (by decide)).trans ((keep0 _ (by decide)).trans (rfl))))))))))))))

/-! What the region finds in the four tables and in the arguments. -/

theorem V_main_v45 : V m c main_v45 = tileW (sizes m c) :=
  (V_eq m c _).trans ((keep14 _ (by decide)).trans ((keep13 _ (by decide)).trans ((keep12 _ (by decide)).trans ((keep11 _ (by decide)).trans ((keep10 _ (by decide)).trans (v45_9 m c))))))
theorem V_main_v28 : V m c main_v28 = expertW (sizes m c) :=
  (V_eq m c _).trans ((keep14 _ (by decide)).trans ((keep13 _ (by decide)).trans ((keep12 _ (by decide)).trans (v28_11 m c))))
theorem V_main_v55 : V m c main_v55 = loW (sizes m c) :=
  (V_eq m c _).trans ((keep14 _ (by decide)).trans ((keep13 _ (by decide)).trans ((keep12 _ (by decide)).trans (v55_11 m c))))
theorem V_main_v63 : V m c main_v63 = hiW (sizes m c) :=
  (V_eq m c _).trans ((keep14 _ (by decide)).trans (v63_13 m c))
theorem V_main_arg0 : V m c main_arg0 = m ((c : Thread nD τ).loc main_arg0) :=
  (V_eq m c _).trans ((keep14 _ (by decide)).trans ((keep13 _ (by decide)).trans ((keep12 _ (by decide)).trans ((keep11 _ (by decide)).trans ((keep10 _ (by decide)).trans ((keep9 _ (by decide)).trans ((keep8 _ (by decide)).trans ((keep7 _ (by decide)).trans ((keep6 _ (by decide)).trans ((keep5 _ (by decide)).trans ((keep4 _ (by decide)).trans ((keep3 _ (by decide)).trans ((keep2 _ (by decide)).trans ((keep1 _ (by decide)).trans ((keep0 _ (by decide)).trans (rfl))))))))))))))))
theorem V_main_arg1 : V m c main_arg1 = m ((c : Thread nD τ).loc main_arg1) :=
  (V_eq m c _).trans ((keep14 _ (by decide)).trans ((keep13 _ (by decide)).trans ((keep12 _ (by decide)).trans ((keep11 _ (by decide)).trans ((keep10 _ (by decide)).trans ((keep9 _ (by decide)).trans ((keep8 _ (by decide)).trans ((keep7 _ (by decide)).trans ((keep6 _ (by decide)).trans ((keep5 _ (by decide)).trans ((keep4 _ (by decide)).trans ((keep3 _ (by decide)).trans ((keep2 _ (by decide)).trans ((keep1 _ (by decide)).trans ((keep0 _ (by decide)).trans (rfl))))))))))))))))
theorem V_main_arg2 : V m c main_arg2 = m ((c : Thread nD τ).loc main_arg2) :=
  (V_eq m c _).trans ((keep14 _ (by decide)).trans ((keep13 _ (by decide)).trans ((keep12 _ (by decide)).trans ((keep11 _ (by decide)).trans ((keep10 _ (by decide)).trans ((keep9 _ (by decide)).trans ((keep8 _ (by decide)).trans ((keep7 _ (by decide)).trans ((keep6 _ (by decide)).trans ((keep5 _ (by decide)).trans ((keep4 _ (by decide)).trans ((keep3 _ (by decide)).trans ((keep2 _ (by decide)).trans ((keep1 _ (by decide)).trans ((keep0 _ (by decide)).trans (rfl))))))))))))))))
theorem V_main_arg3 : V m c main_arg3 = m ((c : Thread nD τ).loc main_arg3) :=
  (V_eq m c _).trans ((keep14 _ (by decide)).trans ((keep13 _ (by decide)).trans ((keep12 _ (by decide)).trans ((keep11 _ (by decide)).trans ((keep10 _ (by decide)).trans ((keep9 _ (by decide)).trans ((keep8 _ (by decide)).trans ((keep7 _ (by decide)).trans ((keep6 _ (by decide)).trans ((keep5 _ (by decide)).trans ((keep4 _ (by decide)).trans ((keep3 _ (by decide)).trans ((keep2 _ (by decide)).trans ((keep1 _ (by decide)).trans ((keep0 _ (by decide)).trans (rfl))))))))))))))))
theorem V_main_arg4 : V m c main_arg4 = m ((c : Thread nD τ).loc main_arg4) :=
  (V_eq m c _).trans ((keep14 _ (by decide)).trans ((keep13 _ (by decide)).trans ((keep12 _ (by decide)).trans ((keep11 _ (by decide)).trans ((keep10 _ (by decide)).trans ((keep9 _ (by decide)).trans ((keep8 _ (by decide)).trans ((keep7 _ (by decide)).trans ((keep6 _ (by decide)).trans ((keep5 _ (by decide)).trans ((keep4 _ (by decide)).trans ((keep3 _ (by decide)).trans ((keep2 _ (by decide)).trans ((keep1 _ (by decide)).trans ((keep0 _ (by decide)).trans (rfl))))))))))))))))
theorem V_main_v64 : V m c main_v64 = (shapeCast S16x1x4096
      (m ((c : Thread nD τ).loc main_arg4) : FVec F S16x4096 .f32) shapeCasts_S16x4096_S16x1x4096 : FVec F S16x1x4096 .f32) := by
  rw [V_eq, line14_v64, arg4_13]

end Chain

end Cert.KernelIdeal.Hand
end
-- ==== Proof.Table.lean ====
/- The prefetched tables as the region reads them: what they hold, that the tile table stays under 24 and the expert
   table under 16 whatever the group sizes are, and so that every window's block is inside its array. -/
module

public import proofs.«01_k».proof.Proof.Plan
public import Idealize.ShloMosaic.Lib.Affine

@[expose] public section

set_option maxRecDepth 16384

noncomputable section

namespace Cert.KernelIdeal.Hand

open Cert.KernelIdeal Cert.KernelIdeal.Gen
open Idealize.ShloMosaic Idealize.ShloMosaic.TcCoe
open Idealize.ShloMosaic.Routing Idealize.ShloMosaic.ValueIdx

variable {F : FTy → Type} [FloatOps F]
variable (m : (ℓ : Loc nD τ sig) → Buf (Elt F) ℓ)

/-! ## The tables' words -/

/-- Held between 0 and 23, a word is a natural under 24. -/
theorem held_lt (v : BitVec 32) : (IntOp.minsi 23#32 (IntOp.maxsi 0#32 v)).toNat < 24 := by
  unfold IntOp.minsi IntOp.maxsi
  have e := BitVec.toInt_eq_toNat_cond v
  have l := v.isLt
  have e23 : (23#32 : BitVec 32).toInt = 23 := by decide
  have e0 : (0#32 : BitVec 32).toInt = 0 := by decide
  by_cases h1 : v.slt 0#32 = true
  · rw [if_pos h1]; decide
  · rw [if_neg h1]
    by_cases h2 : (23#32).slt v = true
    · rw [if_pos h2]; decide
    · rw [if_neg h2]
      rw [BitVec.slt_iff_toInt_lt, e0] at h1
      rw [BitVec.slt_iff_toInt_lt, e23] at h2
      split_ifs at e <;> omega

/-- The tile table is under 24 at every step. -/
theorem tileW_lt (g : IVec S16 32) (i : S39.Idx) : (tileW g i).toNat < 24 := by
  show (IntOp.minsi 23#32 (IntOp.maxsi 0#32 (rawTileOf (firstW g) (itemEndW g) (itemStartW g) i))).toNat < 24
  exact held_lt _

/-- A count of sixteen things, held at 15, is under 16. -/
theorem count_lt {n : Nat} (h : n ≤ 16) : (IntOp.minsi (BitVec.ofNat 32 n) 15#32).toNat < 16 := by
  interval_cases n <;> decide

/-- The expert's word at a step: the number of experts whose items all come before the step's, held at 15. -/
theorem expertOf_eq (ie : IVec S16 32) (i : Fin 39) (Q : Nat → Prop) [DecidablePred Q]
    (hQ : ∀ e : Fin 16, IntOp.cmpi .sge (clampedOf ie (ix1 i)) (ie (ix1 e)) = 1#1 ↔ Q e.val) :
    expertOf ie (ix1 i) = IntOp.minsi (BitVec.ofNat 32 (Nat.count Q 16)) 15#32 := by
  unfold expertOf k39
  show IntOp.minsi (Host.reduce IntOp.addi _ (constantI shape0 32 0#32) _ _ (ix1 i)) _ = _
  refine congrArg₂ IntOp.minsi (reduce_count (by decide) _ _ _ _ i Q fun q => ?_) (bc0 _ _ _)
  rw [← hQ q]
  show IntOp.cmpi .sge _ _ = 1#1 ↔ _
  rw [show broadcastInDim S39x16 ![0, 1] bcast_S39x1_S39x16_0_1 (broadcastInDim S39x1 ![0] bcast_S39_S39x1_0 (clampedOf ie)) (ix2 i q)
      = clampedOf ie (ix1 i) from bcRows (n := 39) (m := 16) _ _ _ i q,
    show broadcastInDim S39x16 ![0, 1] bcast_S1x16_S39x16_0_1 (broadcastInDim S1x16 ![1] bcast_S16_S1x16_1 ie) (ix2 i q)
      = ie (ix1 q) from bcCols (n := 39) (m := 16) _ _ _ i q]

/-- The expert's word is under 16 at every step, -/
theorem expertOf_lt (ie : IVec S16 32) (i : S39.Idx) : (expertOf ie i).toNat < 16 := by
  classical
  obtain ⟨i, rfl⟩ : ∃ p : Fin 39, i = ix1 p := ⟨_, eq_ix1 i⟩
  rw [expertOf_eq ie i
    (fun e => ∃ h : e < 16, IntOp.cmpi .sge (clampedOf ie (ix1 i)) (ie (ix1 ⟨e, h⟩)) = 1#1)
    (fun e => ⟨fun h => ⟨e.isLt, h⟩, fun ⟨_, h⟩ => h⟩)]
  exact count_lt (Nat.count_le _)

/-- and so the expert table is. -/
theorem expertW_lt (g : IVec S16 32) (i : S39.Idx) : (expertW g i).toNat < 16 := expertOf_lt _ _

/-! ## The tables as the pipeline takes them -/

/-- The tables' contents when the region is entered. -/
abbrev tbl : pre0.Contents (Elt F) := fun j => V m (0 : Dev nD) (pre0.ref j)

theorem V_pre (c : Dev nD) (j) : V m c (pre0.ref j) = tbl m j := by
  obtain rfl : c = 0 := Subsingleton.elim _ _
  rfl

/-- The group sizes, as the tables read them. -/
abbrev gs : IVec S16 32 := sizes m 0

theorem tbl_0 : tbl m 0 = tileW (gs m) := V_main_v45 m 0
theorem tbl_1 : tbl m 1 = expertW (gs m) := V_main_v28 m 0
theorem tbl_2 : tbl m 2 = loW (gs m) := V_main_v55 m 0
theorem tbl_3 : tbl m 3 = hiW (gs m) := V_main_v63 m 0

/-- The pipeline's side condition on the tables: every window's block inside its array, its transfers whole words. -/
abbrev Ok : Prop := ok0 (F := F) (tbl m)

/-- The tables' two bounds give the side condition. -/
theorem ok_of_lt (pf : pre0.Contents (Elt F)) (h0 : ∀ x, (pf 0 x : BitVec 32).toNat < 24) (h1 : ∀ x, (pf 1 x : BitVec 32).toNat < 16) :
    ok0 pf := by
  have row : ∀ v : BitVec 32, v.toNat < 24 → ∀ a : Fin 2, ((![v.toNat, 0] : Fin 2 → Nat) a + 1) * S512x1536.size a ≤ S12288x1536.size a := by
    intro v hv a
    fin_cases a
    · show (v.toNat + 1) * 512 ≤ 12288; omega
    · show (0 + 1) * 1536 ≤ 1536; omega
  have row1 : ∀ v : BitVec 32, v.toNat < 24 → ∀ a : Fin 2, ((![v.toNat, 0] : Fin 2 → Nat) a + 1) * S512x1.size a ≤ S12288x1.size a := by
    intro v hv a
    fin_cases a
    · show (v.toNat + 1) * 512 ≤ 12288; omega
    · show (0 + 1) * 1 ≤ 1; omega
  have row4 : ∀ v : BitVec 32, v.toNat < 24 → ∀ a : Fin 2, ((![v.toNat, 0] : Fin 2 → Nat) a + 1) * S512x4096.size a ≤ S12288x4096.size a := by
    intro v hv a
    fin_cases a
    · show (v.toNat + 1) * 512 ≤ 12288; omega
    · show (0 + 1) * 4096 ≤ 4096; omega
  have wt : ∀ v : BitVec 32, v.toNat < 16 → ∀ a : Fin 3, ((![v.toNat, 0, 0] : Fin 3 → Nat) a + 1) * S1x1536x4096.size a ≤ S16x1536x4096.size a := by
    intro v hv a
    fin_cases a
    · show (v.toNat + 1) * 1 ≤ 16; omega
    · show (0 + 1) * 1536 ≤ 1536; omega
    · show (0 + 1) * 4096 ≤ 4096; omega
  have ws : ∀ v : BitVec 32, v.toNat < 16 → ∀ a : Fin 3, ((![v.toNat, 0, 0] : Fin 3 → Nat) a + 1) * S1x1x4096.size a ≤ S16x1x4096.size a := by
    intro v hv a
    fin_cases a
    · show (v.toNat + 1) * 1 ≤ 16; omega
    · show (0 + 1) * 1 ≤ 1; omega
    · show (0 + 1) * 4096 ≤ 4096; omega
  unfold ok0
  refine ⟨fun i => ⟨row _ (h0 _), Or.inr (Affine.block_words_dvd (le_refl 2) (by decide))⟩, fun i => ⟨row1 _ (h0 _), Or.inl rfl⟩,
    fun i => ⟨wt _ (h1 _), Or.inr (Affine.block_words_rows (by decide) rfl)⟩, fun i => ⟨ws _ (h1 _), Or.inl rfl⟩,
    fun i => ⟨row4 _ (h0 _), Or.inr (Affine.block_words_dvd (le_refl 2) (by decide))⟩⟩

/-- Whatever the group sizes, the tables meet the side condition. -/
theorem ok : Ok m :=
  ok_of_lt (tbl m) (fun x => by rw [tbl_0]; exact tileW_lt _ _) (fun x => by rw [tbl_1]; exact expertW_lt _ _)

/-- The tables of this memory, with their side condition. -/
abbrev adm : (pcfg0 (F := F)).Adm := ⟨tbl m, ok m⟩

/-- The pipeline the region runs: the tables' contents put in. -/
abbrev cfgM : Pipeline.Cfg sig Λ₀ := cfg0 (adm m)

end Cert.KernelIdeal.Hand
end
-- ==== Proof.Body.lean ====
/- One grid point's body, run once: it leaves every input as it was. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem bodyRun (c : Dev nD) (i : grid0.Coords) (arg1 : Memref sig .tc .smem S39 .i32) (harg1 : arg1.IsWhole) (arg2 : Memref sig .tc .smem S39 .i32) (harg2 : arg2.IsWhole) (arg3 : Memref sig .tc .smem S39 .i32) (harg3 : arg3.IsWhole) (arg4 : Memref sig .tc .smem S39 .i32) (harg4 : arg4.IsWhole) (arg5 : Memref sig .tc .vmem S512x1536 .fp8e4m3) (harg5 : arg5.IsWhole) (arg6 : Memref sig .tc .vmem S512x1 .f32) (harg6 : arg6.IsWhole) (arg7 : Memref sig .tc .vmem S1x1536x4096 .fp8e4m3) (harg7 : arg7.IsWhole) (arg8 : Memref sig .tc .vmem S1x1x4096 .f32) (harg8 : arg8.IsWhole) (arg9 : Memref sig .tc .vmem S512x4096 .bf16) (harg9 : arg9.IsWhole)
    (p1 p3 p4 : PosShare TreeShare) (f1 : Buf (Elt F) (arg1.view.loc (c : Thread nD τ))) (f3 : Buf (Elt F) (arg3.view.loc (c : Thread nD τ))) (f4 : Buf (Elt F) (arg4.view.loc (c : Thread nD τ)))
    (x5 : Vec F S512x1536 .fp8e4m3) (x6 : Vec F S512x1 .f32) (x7 : Vec F S1x1536x4096 .fp8e4m3) (x8 : Vec F S1x1x4096 .f32) (x9 : Vec F S512x4096 .bf16)
    (E : Set ℕ) (K : PUnit → sProp 𝕄) :
        iprop((arg1.view.loc (c : Thread nD τ) ↦{p1} f1) ∗ (arg3.view.loc (c : Thread nD τ) ↦{p3} f3) ∗ (arg4.view.loc (c : Thread nD τ) ↦{p4} f4) ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (iprop((arg1.view.loc (c : Thread nD τ) ↦{p1} f1) ∗ (arg3.view.loc (c : Thread nD τ) ↦{p3} f3) ∗ (arg4.view.loc (c : Thread nD τ) ↦{p4} f4) ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)) -∗ K ⟨⟩))
          ⊢ wp frame (wpE (defs₀ (F := F)) Variants.none c none) E (cc0_grouped_fp8_matmul i arg1 harg1 arg2 harg2 arg3 harg3 arg4 harg4 arg5 harg5 arg6 harg6 arg7 harg7 arg8 harg8 arg9 harg9) K := by
  simp only [cc0_grouped_fp8_matmul_eq_skeleton]; unfold cc0_grouped_fp8_matmul_skel
  unfold owns
  iintro ⟨H1, H3, H4, ⟨%f5, %hf5, H5⟩, ⟨%f6, %hf6, H6⟩, ⟨%f7, %hf7, H7⟩, ⟨%f8, %hf8, H8⟩, ⟨%f9, %hf9, H9⟩, Hk⟩
  sl_exec
  sl_step
  iapply Hk
  isplitl [H1]; · iexact H1
  isplitl [H3]; · iexact H3
  isplitl [H4]; · iexact H4
  isplitl [H5]; · iexists _; isplitr; swap; · iexact H5
                  ipureintro; exact hf5
  isplitl [H6]; · iexists _; isplitr; swap; · iexact H6
                  ipureintro; exact hf6
  isplitl [H7]; · iexists _; isplitr; swap; · iexact H7
                  ipureintro; exact hf7
  isplitl [H8]; · iexists _; isplitr; swap; · iexact H8
                  ipureintro; exact hf8
  iexists _, _
  isplitr
  swap
  · iexact H9
  ipureintro
  rfl

end Cert.KernelIdeal.Hand
end
-- ==== Proof.Frame.lean ====
/- The region's run: the proof data (each input left as found, the output within a relation `R` of what the body found
   there), the body obligation off one run of the body, the launch, and what the arguments hold at the end. -/
module

public import proofs.«01_k».proof.Proof.Table
public import proofs.«01_k».proof.Proof.Body
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables as the body is handed them -/

abbrev tbM0 : Memref sig .tc .smem S39 .i32 := Memref.whole main_v45
abbrev tbM1 : Memref sig .tc .smem S39 .i32 := Memref.whole main_v28
abbrev tbM2 : Memref sig .tc .smem S39 .i32 := Memref.whole main_v55
abbrev tbM3 : Memref sig .tc .smem S39 .i32 := Memref.whole main_v63

/-- A table's buffer on core `c`, held at half the full share. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

theorem PhiT_eq (c : Dev nD) : (Pipeline.ΦT pre0 (tbl m) c : sProp 𝕄)
    = iprop(tbPt c tbM0 (tbl m 0) ∗ tbPt c tbM1 (tbl m 1) ∗ tbPt c tbM2 (tbl m 2) ∗ tbPt c tbM3 (tbl m 3)) := by
  unfold Pipeline.ΦT Pipeline.prefHeld
  exact bigSep_univ_eq_bigSepL [(0 : Fin 4), (1 : Fin 4), (2 : Fin 4), (3 : Fin 4)] (by decide) (by decide) _

/-! ## The proof data -/

/-- What the body may leave in the output's buffer at a point, given what it found there. -/
abbrev Rel : Type := Fin (cfgM m).N → (Y X : Vec F S512x4096 .bf16) → Prop

variable (R : Dev nD → Rel (F := F) m)

/-- The proof data: inputs left as found, the output by `R`; the invariant is the scoped rest and the tables' halves. -/
def rdat (c : Dev nD) : RDat τ (Elt F) Unit ℕ (UR sig nD τ) ℕ (cfgM m) c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => R c t Y X
  Φ _ := iprop(Pipeline.ΦA spec0 c ∗ Pipeline.ΦT pre0 (tbl m) c)
  q _ := fullShare
  owed _ := 0

theorem A_eq (c : Dev nD) (w : Fin (cfgM m).W) : (rdat m R c).A w = V m c (Pipeline.arrRef spec0 w) := by
  dsimp only [rdat]

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input's buffer holds its block wherever the body is handed it. -/
theorem finds_0 (c : Dev nD) (t : Fin (cfgM m).N) (Y) (h : (rdat m R c).Finds 0 t Y) : Y = iblk m c 0 t := by
  obtain ⟨d, rfl⟩ := (rdat m R c).finds_in_eq_fetched 0 rfl (fun _ _ _ => rfl) (fun _ _ _ h => h) t Y h
  rfl
theorem finds_1 (c : Dev nD) (t : Fin (cfgM m).N) (Y) (h : (rdat m R c).Finds 1 t Y) : Y = iblk m c 1 t := by
  obtain ⟨d, rfl⟩ := (rdat m R c).finds_in_eq_fetched 1 rfl (fun _ _ _ => rfl) (fun _ _ _ h => h) t Y h
  rfl
theorem finds_2 (c : Dev nD) (t : Fin (cfgM m).N) (Y) (h : (rdat m R c).Finds 2 t Y) : Y = iblk m c 2 t := by
  obtain ⟨d, rfl⟩ := (rdat m R c).finds_in_eq_fetched 2 rfl (fun _ _ _ => rfl) (fun _ _ _ h => h) t Y h
  rfl
theorem finds_3 (c : Dev nD) (t : Fin (cfgM m).N) (Y) (h : (rdat m R c).Finds 3 t Y) : Y = iblk m c 3 t := by
  obtain ⟨d, rfl⟩ := (rdat m R c).finds_in_eq_fetched 3 rfl (fun _ _ _ => rfl) (fun _ _ _ h => h) t Y h
  rfl

/-! ## The body at a point -/

/-- Each window's staging buffer at point `t`. -/
abbrev ms0 (t : Fin (cfgM m).N) : Memref sig .tc .vmem S512x1536 .fp8e4m3 := spec0_0.stage ((cfgM m).slots t 0)
abbrev ms1 (t : Fin (cfgM m).N) : Memref sig .tc .vmem S512x1 .f32 := spec0_1.stage ((cfgM m).slots t 1)
abbrev ms2 (t : Fin (cfgM m).N) : Memref sig .tc .vmem S1x1536x4096 .fp8e4m3 := spec0_2.stage ((cfgM m).slots t 2)
abbrev ms3 (t : Fin (cfgM m).N) : Memref sig .tc .vmem S1x1x4096 .f32 := spec0_3.stage ((cfgM m).slots t 3)
abbrev ms4 (t : Fin (cfgM m).N) : Memref sig .tc .vmem S512x4096 .bf16 := spec0_4.stage ((cfgM m).slots t 4)

/-- The body at point `t`, on what the pipeline calls it with. -/
abbrev bodyAt (t : Fin (cfgM m).N) : Prog (TpuEff nD τ sig (Elt F) Λ₀ .tc) PUnit :=
  cc0_grouped_fp8_matmul (grid0.coords t) tbM0 (Memref.isWhole_whole _) tbM1 (Memref.isWhole_whole _)
    tbM2 (Memref.isWhole_whole _) tbM3 (Memref.isWhole_whole _)
    (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2))
    (spec0_3.stage ((cfgM m).slots t 3)) (hstage0_3 (((cfgM m).slots t 3).cast nbuf0_3))
    (spec0_4.stage ((cfgM m).slots t 4)) (hstage0_4 (((cfgM m).slots t 4).cast nbuf0_4))

theorem defs₀_row (t : Fin (cfgM m).N) :
    defs₀ (F := F) .tc (cfgM m).body ((cfgM m).bodyArgs t ((cfgM m).slots t)) = bodyAt m t := by
  unfold defs₀; rw [Defs.onTc_tc]

/-- The body's run at a point, as the pipeline's data ask for it: off the tables' halves and the five buffers. -/
abbrev BodyAt (c : Dev nD) (t : Fin (cfgM m).N) : Prop :=
  ∀ (x9 : Vec F S512x4096 .bf16) (K : PUnit → sProp 𝕄),
    iprop(tbPt c tbM0 (tbl m 0) ∗ tbPt c tbM2 (tbl m 2) ∗ tbPt c tbM3 (tbl m 3)
        ∗ owns (c : Thread nD τ) (ms0 m t) fullShare (iblk m c 0 t) ∗ owns (c : Thread nD τ) (ms1 m t) fullShare (iblk m c 1 t)
        ∗ owns (c : Thread nD τ) (ms2 m t) fullShare (iblk m c 2 t) ∗ owns (c : Thread nD τ) (ms3 m t) fullShare (iblk m c 3 t)
        ∗ owns (c : Thread nD τ) (ms4 m t) fullShare x9
        ∗ (iprop(tbPt c tbM0 (tbl m 0) ∗ tbPt c tbM2 (tbl m 2) ∗ tbPt c tbM3 (tbl m 3)
          ∗ owns (c : Thread nD τ) (ms0 m t) fullShare (iblk m c 0 t) ∗ owns (c : Thread nD τ) (ms1 m t) fullShare (iblk m c 1 t)
          ∗ owns (c : Thread nD τ) (ms2 m t) fullShare (iblk m c 2 t) ∗ owns (c : Thread nD τ) (ms3 m t) fullShare (iblk m c 3 t)
          ∗ (∃ d, ⌜R c t x9 d⌝ ∗ owns (c : Thread nD τ) (ms4 m t) fullShare d)) -∗ K ⟨⟩))
      ⊢ wp frame (wpE (defs₀ (F := F)) Variants.none c none) Set.univ (bodyAt m t) K

/-- The body obligation off the body's run. -/
theorem body_obligation (hR : ∀ c t, BodyAt m R c t) (c : Dev nD) :
    (rdat m R c).BodyObligation (defs₀ (F := F)) Variants.none () Set.univ := fun t Y hY => by
  rw [bigSep_W0, bigSep_W0, defs₀_row m]
  rw [show Y 0 = iblk m c 0 t from finds_0 m R c t _ (hY 0), show Y 1 = iblk m c 1 t from finds_1 m R c t _ (hY 1),
    show Y 2 = iblk m c 2 t from finds_2 m R c t _ (hY 2), show Y 3 = iblk m c 3 t from finds_3 m R c t _ (hY 3)]
  rw [show (rdat m R c).Φ t.succ = iprop(Pipeline.ΦA spec0 c ∗ Pipeline.ΦT pre0 (tbl m) c) from rfl,
    show (rdat m R c).Φ t.castSucc = iprop(Pipeline.ΦA spec0 c ∗ Pipeline.ΦT pre0 (tbl m) c) from rfl,
    show (rdat m R c).owesAt () t.succ = (rdat m R c).owesAt () t.castSucc from rfl, PhiT_eq]
  iintro ⟨⟨HΦ, HT0, HT1, HT2, HT3⟩, Ho, H0, H1, H2, H3, H4⟩
  iapply (hR c t (Y 4) _)
  isplitl [HT0]; · iexact HT0
  isplitl [HT2]; · iexact HT2
  isplitl [HT3]; · iexact HT3
  isplitl [H0]; · iexact H0
  isplitl [H1]; · iexact H1
  isplitl [H2]; · iexact H2
  isplitl [H3]; · iexact H3
  isplitl [H4]; · iexact H4
  iintro ⟨HT0, HT2, HT3, H0, H1, H2, H3, ⟨%d, %hd, H4⟩⟩
  isplitl [HΦ HT0 HT1 HT2 HT3]
  · isplitl [HΦ]; · iexact HΦ
    isplitl [HT0]; · iexact HT0
    isplitl [HT1]; · iexact HT1
    isplitl [HT2]; · iexact HT2
    iexact HT3
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  iexists d; isplitr; swap; · iexact H4
  ipureintro; exact hd

/-! ## The run -/

set_option backward.isDefEq.respectTransparency.types false in
/-- The launch: every array ends within the data's relation, every other buffer as the region found it, and every
    semaphore counter at zero. -/
theorem run_main (hR : ∀ c t, BodyAt m R c t) :
    θ_run defs (onTc (τ := τ) (main (F := F))) (s₀ m ρ) (fun r => RDat.FramePost (cfgM m) (rdat m R) (V m) r ∧ r.2.sem = fun _ => 0) :=
  RDat.θ_run_frameP (Q' := _) pcfgs (fun _ => adm m) (0 : Fin 1) launch0 defs₀ Variants.none (rdat m R) m ρ main
    (hbody := body_obligation m R hR) (hshare := fun c => (rdat m R c).share_full fun _ => rfl)
    (howed := fun _ _ => rfl) (V := V m) (hmain := hmain m Variants.none) (hA := A_eq m R) (hpf := V_pre m)
    (hΦ := fun _ _ => rfl)

/-- The arguments end as they were. -/
theorem args_kept {r : PUnit × MemSt nD τ sig (Elt F)} (h : RDat.FramePost (cfgM m) (rdat m R) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(RDat.FramePost.arr_in h c 0 rfl).trans (V_main_arg0 m c), (RDat.FramePost.arr_in h c 1 rfl).trans (V_main_arg1 m c),
    ((h c).2 main_arg2 (by decide : main_arg2 ∈ Pipeline.restRefs sig spec0)).trans (V_main_arg2 m c), (RDat.FramePost.arr_in h c 2 rfl).trans (V_main_arg3 m c),
    ((h c).2 main_arg4 (by decide : main_arg4 ∈ Pipeline.restRefs sig spec0)).trans (V_main_arg4 m c)⟩

/-! ## The frame: nothing said of the output -/

theorem body_free (c : Dev nD) (t : Fin (cfgM m).N) : BodyAt m (fun _ _ _ _ => True) c t := fun x9 K => by
  iintro ⟨HT0, HT2, HT3, H0, H1, H2, H3, H4, Hk⟩
  iapply (bodyRun c (grid0.coords t) _ _ _ _ _ _ _ _ _ _ _ _ _ _ _ _ _ _ fullShare.right fullShare.right fullShare.right
    (tbl m 0) (tbl m 2) (tbl m 3) (iblk m c 0 t) (iblk m c 1 t) (iblk m c 2 t) (iblk m c 3 t) x9 Set.univ K)
  isplitl [HT0]; · iexact HT0
  isplitl [HT2]; · iexact HT2
  isplitl [HT3]; · iexact HT3
  isplitl [H0]; · iexact H0
  isplitl [H1]; · iexact H1
  isplitl [H2]; · iexact H2
  isplitl [H3]; · iexact H3
  isplitl [H4]; · iexact H4
  iintro ⟨HT0, HT2, HT3, H0, H1, H2, H3, ⟨%d, H4⟩⟩
  iapply Hk
  isplitl [HT0]; · iexact HT0
  isplitl [HT2]; · iexact HT2
  isplitl [HT3]; · iexact HT3
  isplitl [H0]; · iexact H0
  isplitl [H1]; · iexact H1
  isplitl [H2]; · iexact H2
  isplitl [H3]; · iexact H3
  iexists d
  isplitr; swap; · iexact H4
  ipureintro; trivial

/-- The frame claim: the program ends, its arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_kept m _ h.1 c, h.2⟩) (run_main m ρ _ (body_free m))

end Cert.KernelIdeal.Hand
end
-- ==== Proof.Bits.Entry.lean ====
/- The kernel itself (the program read at machine floats), as its idealization in the module of the same name. What the kernel's one region finds: @main up to the region, the buffers' contents there (`V`), the four prefetched
   tables read off them (`tbl`), and each table as the body is handed it. -/
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operations before the region, stretch by stretch. -/
abbrev hostLines : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13, hostOps0_14]

/-- Core `c`'s TensorCore buffers when the region is entered: after the host operations. -/
abbrev V (c : Dev nD) (b : Ref sig .tc) : Buf (Elt F) ((c : Thread nD τ).loc b) :=
  StableHlo.after (List.flatten hostLines) (fun b => m (c, b)) b

theorem hostLines_sub : (hostLines (F := F)).Forall fun ops => ops.Forall fun op => op.bufs ⊆ StableHlo.tcRefs τ sig := by
  simp only [hostLines, List.Forall]
  exact ⟨hostOps0_sub, hostOps0_1_sub, hostOps0_2_sub, hostOps0_3_sub, hostOps0_4_sub, hostOps0_5_sub, hostOps0_6_sub,
    hostOps0_7_sub, hostOps0_8_sub, hostOps0_9_sub, hostOps0_10_sub, hostOps0_11_sub, hostOps0_12_sub, hostOps0_13_sub,
    hostOps0_14_sub⟩

theorem hostLines_fresh : (hostLines (F := F)).Forall fun ops => ops.Forall fun op => op.fresh = ∅ := by
  simp only [hostLines, List.Forall]; repeat' constructor

set_option maxHeartbeats 800000 in
/-- @main up to the region: the stretches of host operations, then the region. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostLines hostLines_sub hostLines_fresh main_chain

end Cert.Kernel.Hand
end
-- ==== Proof.Bits.Plan.lean ====
/- The kernel itself: what its region finds in the two tables its windows' index maps read, and in its arguments. The
   work list's words are the functions of Plan.lean, the two programs having the same host operations. -/
module

public import proofs.«01_k».proof.Proof.Table
public import proofs.«01_k».proof.Proof.Bits.Entry

@[expose] public section

set_option maxRecDepth 16384

noncomputable section

namespace Cert.Kernel.Hand

open Cert.Kernel Cert.Kernel.Gen
open Idealize.ShloMosaic Idealize.ShloMosaic.TcCoe
open Cert.KernelIdeal.Hand (expertOf heldW after_app)

variable {F : FTy → Type} [FloatOps F]

section Lines
variable (W : Valuation τ sig (Elt F))

/-- The contents of a TensorCore reference in a valuation. -/
abbrev rd (W : Valuation τ sig (Elt F)) (r : Ref sig .tc) := W (Proc.devRef .tc r)

theorem line8_v28 : rd (StableHlo.after hostOps0_8 W) main_v28 = expertOf (rd W main_v12) := by
  after_reads_simp
  rfl
theorem line89_v45 : rd (StableHlo.after hostOps0_9 (StableHlo.after hostOps0_8 W)) main_v45
    = heldW (rd (StableHlo.after hostOps0_8 W) main_v44) := by
  after_reads_simp
  rfl
/-! What each stretch leaves alone: every reference off the list of those it writes. -/

/-- The references stretch 0 writes. -/
abbrev wr0 : List (Ref sig .tc) :=
  [main_call0_call0_c, main_call0_call0_v0, main_v0]
theorem keep0 {r : Ref sig .tc} (hr : r ∉ wr0) : rd (StableHlo.after hostOps0 W) r = rd W r :=
  StableHlo.after_unwritten wr0 rfl hr W
/-- The references stretch 1 writes. -/
abbrev wr1 : List (Ref sig .tc) :=
  [main_v1, main_c]
theorem keep1 {r : Ref sig .tc} (hr : r ∉ wr1) : rd (StableHlo.after hostOps0_1 W) r = rd W r :=
  StableHlo.after_unwritten wr1 rfl hr W
/-- The references stretch 2 writes. -/
abbrev wr2 : List (Ref sig .tc) :=
  [main_call1_v0, main_call1_v1, main_call1_v2, main_call1_v3, main_call1_v4, main_call1_v5, main_call1_v6,
      main_call1_v7, main_call1_v8, main_call1_c, main_call1_v9, main_call1_v10, main_call1_v11, main_call1_c_0,
      main_call1_v12, main_call1_v13, main_v2]
theorem keep2 {r : Ref sig .tc} (hr : r ∉ wr2) : rd (StableHlo.after hostOps0_2 W) r = rd W r :=
  StableHlo.after_unwritten wr2 rfl hr W
/-- The references stretch 3 writes. -/
abbrev wr3 : List (Ref sig .tc) :=
  [main_c_0, main_v3, main_v4, main_c_1]
theorem keep3 {r : Ref sig .tc} (hr : r ∉ wr3) : rd (StableHlo.after hostOps0_3 W) r = rd W r :=
  StableHlo.after_unwritten wr3 rfl hr W
/-- The references stretch 4 writes. -/
abbrev wr4 : List (Ref sig .tc) :=
  [main_call2_v0, main_call2_v1, main_call2_v2, main_call2_v3, main_call2_v4, main_call2_v5, main_call2_v6,
      main_call2_v7, main_call2_v8, main_call2_c, main_call2_v9, main_call2_v10, main_call2_v11, main_call2_c_0,
      main_call2_v12, main_call2_v13, main_v5]
theorem keep4 {r : Ref sig .tc} (hr : r ∉ wr4) : rd (StableHlo.after hostOps0_4 W) r = rd W r :=
  StableHlo.after_unwritten wr4 rfl hr W
/-- The references stretch 5 writes. -/
abbrev wr5 : List (Ref sig .tc) :=
  [main_c_2, main_v6, main_v7, main_v8, main_c_3, main_v9, main_v10, main_c_4]
theorem keep5 {r : Ref sig .tc} (hr : r ∉ wr5) : rd (StableHlo.after hostOps0_5 W) r = rd W r :=
  StableHlo.after_unwritten wr5 rfl hr W
/-- The references stretch 6 writes. -/
abbrev wr6 : List (Ref sig .tc) :=
  [main_call3_v0, main_call3_v1, main_v11]
theorem keep6 {r : Ref sig .tc} (hr : r ∉ wr6) : rd (StableHlo.after hostOps0_6 W) r = rd W r :=
  StableHlo.after_unwritten wr6 rfl hr W
/-- The references stretch 7 writes. -/
abbrev wr7 : List (Ref sig .tc) :=
  [main_call4_call0_c, main_call4_call0_v0, main_v12]
theorem keep7 {r : Ref sig .tc} (hr : r ∉ wr7) : rd (StableHlo.after hostOps0_7 W) r = rd W r :=
  StableHlo.after_unwritten wr7 rfl hr W
/-- The references stretch 8 writes. -/
abbrev wr8 : List (Ref sig .tc) :=
  [main_v13, main_v14, main_v15, main_v16, main_c_5, main_v17, main_v18, main_v19, main_v20, main_v21,
      main_v22, main_v23, main_v24, main_v25, main_c_6, main_v26, main_c_7, main_v27, main_v28, main_c_8,
      main_v29, main_v30, main_c_9, main_v31, main_v32, main_v33, main_v34, main_v35, main_v36, main_c_10,
      main_v37, main_v38, main_c_11, main_v39, main_v40, main_v41, main_v42, main_v43, main_v44, main_c_12,
      main_c_13]
theorem keep8 {r : Ref sig .tc} (hr : r ∉ wr8) : rd (StableHlo.after hostOps0_8 W) r = rd W r :=
  StableHlo.after_unwritten wr8 rfl hr W
/-- The references stretch 9 writes. -/
abbrev wr9 : List (Ref sig .tc) :=
  [main_call5_v0, main_call5_v1, main_call5_v2, main_call5_v3, main_call5_v4, main_v45]
theorem keep9 {r : Ref sig .tc} (hr : r ∉ wr9) : rd (StableHlo.after hostOps0_9 W) r = rd W r :=
  StableHlo.after_unwritten wr9 rfl hr W
/-- The references stretch 10 writes. -/
abbrev wr10 : List (Ref sig .tc) :=
  [main_v46, main_v47, main_c_14, main_v48, main_v49, main_c_15, main_v50, main_v51, main_v52, main_v53,
      main_v54, main_c_16]
theorem keep10 {r : Ref sig .tc} (hr : r ∉ wr10) : rd (StableHlo.after hostOps0_10 W) r = rd W r :=
  StableHlo.after_unwritten wr10 rfl hr W
/-- The references stretch 11 writes. -/
abbrev wr11 : List (Ref sig .tc) :=
  [main_call6_v0, main_call6_v1, main_v55]
theorem keep11 {r : Ref sig .tc} (hr : r ∉ wr11) : rd (StableHlo.after hostOps0_11 W) r = rd W r :=
  StableHlo.after_unwritten wr11 rfl hr W
/-- The references stretch 12 writes. -/
abbrev wr12 : List (Ref sig .tc) :=
  [main_c_17, main_v56, main_v57, main_c_18, main_v58, main_v59, main_v60, main_v61, main_v62, main_c_19]
theorem keep12 {r : Ref sig .tc} (hr : r ∉ wr12) : rd (StableHlo.after hostOps0_12 W) r = rd W r :=
  StableHlo.after_unwritten wr12 rfl hr W
/-- The references stretch 13 writes. -/
abbrev wr13 : List (Ref sig .tc) :=
  [main_call7_v0, main_call7_v1, main_v63]
theorem keep13 {r : Ref sig .tc} (hr : r ∉ wr13) : rd (StableHlo.after hostOps0_13 W) r = rd W r :=
  StableHlo.after_unwritten wr13 rfl hr W
/-- The references stretch 14 writes. -/
abbrev wr14 : List (Ref sig .tc) :=
  [main_v64]
theorem keep14 {r : Ref sig .tc} (hr : r ∉ wr14) : rd (StableHlo.after hostOps0_14 W) r = rd W r :=
  StableHlo.after_unwritten wr14 rfl hr W
end Lines

/-! ## The contents after each stretch, and what the region finds -/

section Chain
variable (m : (ℓ : Loc nD τ sig) → Buf (Elt F) ℓ) (c : Dev nD)

/-- The contents of core `c` before the region, and after each stretch. -/
abbrev st : Valuation τ sig (Elt F) := fun b => m (c, b)
abbrev st0 : Valuation τ sig (Elt F) := StableHlo.after hostOps0 (st m c)
abbrev st1 : Valuation τ sig (Elt F) := StableHlo.after hostOps0_1 (st0 m c)
abbrev st2 : Valuation τ sig (Elt F) := StableHlo.after hostOps0_2 (st1 m c)
abbrev st3 : Valuation τ sig (Elt F) := StableHlo.after hostOps0_3 (st2 m c)
abbrev st4 : Valuation τ sig (Elt F) := StableHlo.after hostOps0_4 (st3 m c)
abbrev st5 : Valuation τ sig (Elt F) := StableHlo.after hostOps0_5 (st4 m c)
abbrev st6 : Valuation τ sig (Elt F) := StableHlo.after hostOps0_6 (st5 m c)
abbrev st7 : Valuation τ sig (Elt F) := StableHlo.after hostOps0_7 (st6 m c)
abbrev st8 : Valuation τ sig (Elt F) := StableHlo.after hostOps0_8 (st7 m c)
abbrev st9 : Valuation τ sig (Elt F) := StableHlo.after hostOps0_9 (st8 m c)
abbrev st10 : Valuation τ sig (Elt F) := StableHlo.after hostOps0_10 (st9 m c)
abbrev st11 : Valuation τ sig (Elt F) := StableHlo.after hostOps0_11 (st10 m c)
abbrev st12 : Valuation τ sig (Elt F) := StableHlo.after hostOps0_12 (st11 m c)
abbrev st13 : Valuation τ sig (Elt F) := StableHlo.after hostOps0_13 (st12 m c)
abbrev st14 : Valuation τ sig (Elt F) := StableHlo.after hostOps0_14 (st13 m c)

theorem after_app {l₁ l₂ : List (HloOp τ sig (Elt F))} (W : Valuation τ sig (Elt F)) :
    StableHlo.after (l₁ ++ l₂) W = StableHlo.after l₂ (StableHlo.after l₁ W) := by
  induction l₁ generalizing W with
  | nil => rfl
  | cons op l ih => exact ih _

theorem V_eq (r : Ref sig .tc) : V m c r = rd (st14 m c) r := by
  unfold V
  simp only [hostLines, List.flatten_cons, List.flatten_nil, List.append_nil, after_app]

/-! What the region finds in the two tables and in the arguments. -/

theorem V_main_v28 : ∃ x : IVec S16 32, V m c main_v28 = expertOf x :=
  ⟨_, (V_eq m c _).trans ((keep14 _ (by decide)).trans ((keep13 _ (by decide)).trans ((keep12 _ (by decide)).trans ((keep11 _ (by decide)).trans ((keep10 _ (by decide)).trans ((keep9 _ (by decide)).trans (line8_v28 _)))))))⟩
theorem V_main_v45 : ∃ x : IVec S39 32, V m c main_v45 = heldW x :=
  ⟨_, (V_eq m c _).trans ((keep14 _ (by decide)).trans ((keep13 _ (by decide)).trans ((keep12 _ (by decide)).trans ((keep11 _ (by decide)).trans ((keep10 _ (by decide)).trans (line89_v45 _))))))⟩
theorem V_main_arg0 : V m c main_arg0 = m ((c : Thread nD τ).loc main_arg0) :=
  (V_eq m c _).trans ((keep14 _ (by decide)).trans ((keep13 _ (by decide)).trans ((keep12 _ (by decide)).trans ((keep11 _ (by decide)).trans ((keep10 _ (by decide)).trans ((keep9 _ (by decide)).trans ((keep8 _ (by decide)).trans ((keep7 _ (by decide)).trans ((keep6 _ (by decide)).trans ((keep5 _ (by decide)).trans ((keep4 _ (by decide)).trans ((keep3 _ (by decide)).trans ((keep2 _ (by decide)).trans ((keep1 _ (by decide)).trans ((keep0 _ (by decide)).trans (rfl))))))))))))))))
theorem V_main_arg1 : V m c main_arg1 = m ((c : Thread nD τ).loc main_arg1) :=
  (V_eq m c _).trans ((keep14 _ (by decide)).trans ((keep13 _ (by decide)).trans ((keep12 _ (by decide)).trans ((keep11 _ (by decide)).trans ((keep10 _ (by decide)).trans ((keep9 _ (by decide)).trans ((keep8 _ (by decide)).trans ((keep7 _ (by decide)).trans ((keep6 _ (by decide)).trans ((keep5 _ (by decide)).trans ((keep4 _ (by decide)).trans ((keep3 _ (by decide)).trans ((keep2 _ (by decide)).trans ((keep1 _ (by decide)).trans ((keep0 _ (by decide)).trans (rfl))))))))))))))))
theorem V_main_arg2 : V m c main_arg2 = m ((c : Thread nD τ).loc main_arg2) :=
  (V_eq m c _).trans ((keep14 _ (by decide)).trans ((keep13 _ (by decide)).trans ((keep12 _ (by decide)).trans ((keep11 _ (by decide)).trans ((keep10 _ (by decide)).trans ((keep9 _ (by decide)).trans ((keep8 _ (by decide)).trans ((keep7 _ (by decide)).trans ((keep6 _ (by decide)).trans ((keep5 _ (by decide)).trans ((keep4 _ (by decide)).trans ((keep3 _ (by decide)).trans ((keep2 _ (by decide)).trans ((keep1 _ (by decide)).trans ((keep0 _ (by decide)).trans (rfl))))))))))))))))
theorem V_main_arg3 : V m c main_arg3 = m ((c : Thread nD τ).loc main_arg3) :=
  (V_eq m c _).trans ((keep14 _ (by decide)).trans ((keep13 _ (by decide)).trans ((keep12 _ (by decide)).trans ((keep11 _ (by decide)).trans ((keep10 _ (by decide)).trans ((keep9 _ (by decide)).trans ((keep8 _ (by decide)).trans ((keep7 _ (by decide)).trans ((keep6 _ (by decide)).trans ((keep5 _ (by decide)).trans ((keep4 _ (by decide)).trans ((keep3 _ (by decide)).trans ((keep2 _ (by decide)).trans ((keep1 _ (by decide)).trans ((keep0 _ (by decide)).trans (rfl))))))))))))))))
theorem V_main_arg4 : V m c main_arg4 = m ((c : Thread nD τ).loc main_arg4) :=
  (V_eq m c _).trans ((keep14 _ (by decide)).trans ((keep13 _ (by decide)).trans ((keep12 _ (by decide)).trans ((keep11 _ (by decide)).trans ((keep10 _ (by decide)).trans ((keep9 _ (by decide)).trans ((keep8 _ (by decide)).trans ((keep7 _ (by decide)).trans ((keep6 _ (by decide)).trans ((keep5 _ (by decide)).trans ((keep4 _ (by decide)).trans ((keep3 _ (by decide)).trans ((keep2 _ (by decide)).trans ((keep1 _ (by decide)).trans ((keep0 _ (by decide)).trans (rfl))))))))))))))))

end Chain

end Cert.Kernel.Hand
end
-- ==== Proof.Bits.Table.lean ====
/- The kernel itself: its two tables stay under 24 and under 16 whatever the group sizes, and so every window's block is
   inside its array. -/
module

public import proofs.«01_k».proof.Proof.Bits.Plan
public import Idealize.ShloMosaic.Lib.Affine

@[expose] public section

set_option maxRecDepth 16384

noncomputable section

namespace Cert.Kernel.Hand

open Cert.Kernel Cert.Kernel.Gen
open Idealize.ShloMosaic Idealize.ShloMosaic.TcCoe
open Idealize.ShloMosaic.Routing Idealize.ShloMosaic.ValueIdx
open Cert.KernelIdeal.Hand (heldW expertOf held_lt expertOf_lt)

variable {F : FTy → Type} [FloatOps F]
variable (m : (ℓ : Loc nD τ sig) → Buf (Elt F) ℓ)

/-! ## The tables as the pipeline takes them -/

/-- The tables' contents when the region is entered. -/
abbrev tbl : pre0.Contents (Elt F) := fun j => V m (0 : Dev nD) (pre0.ref j)

theorem V_pre (c : Dev nD) (j) : V m c (pre0.ref j) = tbl m j := by
  obtain rfl : c = 0 := Subsingleton.elim _ _
  rfl

/-- The pipeline's side condition on the tables: every window's block inside its array, its transfers whole words. -/
abbrev Ok : Prop := ok0 (F := F) (tbl m)

/-- The tables' two bounds give the side condition. -/
theorem ok_of_lt (pf : pre0.Contents (Elt F)) (h0 : ∀ x, (pf 0 x : BitVec 32).toNat < 24) (h1 : ∀ x, (pf 1 x : BitVec 32).toNat < 16) :
    ok0 pf := by
  have row : ∀ v : BitVec 32, v.toNat < 24 → ∀ a : Fin 2, ((![v.toNat, 0] : Fin 2 → Nat) a + 1) * S512x1536.size a ≤ S12288x1536.size a := by
    intro v hv a
    fin_cases a
    · show (v.toNat + 1) * 512 ≤ 12288; omega
    · show (0 + 1) * 1536 ≤ 1536; omega
  have row1 : ∀ v : BitVec 32, v.toNat < 24 → ∀ a : Fin 2, ((![v.toNat, 0] : Fin 2 → Nat) a + 1) * S512x1.size a ≤ S12288x1.size a := by
    intro v hv a
    fin_cases a
    · show (v.toNat + 1) * 512 ≤ 12288; omega
    · show (0 + 1) * 1 ≤ 1; omega
  have row4 : ∀ v : BitVec 32, v.toNat < 24 → ∀ a : Fin 2, ((![v.toNat, 0] : Fin 2 → Nat) a + 1) * S512x4096.size a ≤ S12288x4096.size a := by
    intro v hv a
    fin_cases a
    · show (v.toNat + 1) * 512 ≤ 12288; omega
    · show (0 + 1) * 4096 ≤ 4096; omega
  have wt : ∀ v : BitVec 32, v.toNat < 16 → ∀ a : Fin 3, ((![v.toNat, 0, 0] : Fin 3 → Nat) a + 1) * S1x1536x4096.size a ≤ S16x1536x4096.size a := by
    intro v hv a
    fin_cases a
    · show (v.toNat + 1) * 1 ≤ 16; omega
    · show (0 + 1) * 1536 ≤ 1536; omega
    · show (0 + 1) * 4096 ≤ 4096; omega
  have ws : ∀ v : BitVec 32, v.toNat < 16 → ∀ a : Fin 3, ((![v.toNat, 0, 0] : Fin 3 → Nat) a + 1) * S1x1x4096.size a ≤ S16x1x4096.size a := by
    intro v hv a
    fin_cases a
    · show (v.toNat + 1) * 1 ≤ 16; omega
    · show (0 + 1) * 1 ≤ 1; omega
    · show (0 + 1) * 4096 ≤ 4096; omega
  unfold ok0
  refine ⟨fun i => ⟨row _ (h0 _), Or.inr (Affine.block_words_dvd (le_refl 2) (by decide))⟩, fun i => ⟨row1 _ (h0 _), Or.inl rfl⟩,
    fun i => ⟨wt _ (h1 _), Or.inr (Affine.block_words_rows (by decide) rfl)⟩, fun i => ⟨ws _ (h1 _), Or.inl rfl⟩,
    fun i => ⟨row4 _ (h0 _), Or.inr (Affine.block_words_dvd (le_refl 2) (by decide))⟩⟩

/-- Whatever the group sizes, the tables meet the side condition. -/
theorem ok : Ok m :=
  ok_of_lt (tbl m)
    (fun x => by
      obtain ⟨y, h⟩ := V_main_v45 m 0
      rw [show tbl m 0 = heldW y from h]
      exact held_lt _)
    (fun x => by
      obtain ⟨y, h⟩ := V_main_v28 m 0
      rw [show tbl m 1 = expertOf y from h]
      exact expertOf_lt _ _)

/-- The tables of this memory, with their side condition. -/
abbrev adm : (pcfg0 (F := F)).Adm := ⟨tbl m, ok m⟩

/-- The pipeline the region runs: the tables' contents put in. -/
abbrev cfgM : Pipeline.Cfg sig Λ₀ := cfg0 (adm m)

end Cert.Kernel.Hand
end
-- ==== Proof.Bits.Body.lean ====
/- The kernel itself (the program read at machine floats), as its idealization in the module of the same name. One grid point's body, run once: it leaves every input as it was. -/
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem bodyRun (c : Dev nD) (i : grid0.Coords) (arg1 : Memref sig .tc .smem S39 .i32) (harg1 : arg1.IsWhole) (arg2 : Memref sig .tc .smem S39 .i32) (harg2 : arg2.IsWhole) (arg3 : Memref sig .tc .smem S39 .i32) (harg3 : arg3.IsWhole) (arg4 : Memref sig .tc .smem S39 .i32) (harg4 : arg4.IsWhole) (arg5 : Memref sig .tc .vmem S512x1536 .fp8e4m3) (harg5 : arg5.IsWhole) (arg6 : Memref sig .tc .vmem S512x1 .f32) (harg6 : arg6.IsWhole) (arg7 : Memref sig .tc .vmem S1x1536x4096 .fp8e4m3) (harg7 : arg7.IsWhole) (arg8 : Memref sig .tc .vmem S1x1x4096 .f32) (harg8 : arg8.IsWhole) (arg9 : Memref sig .tc .vmem S512x4096 .bf16) (harg9 : arg9.IsWhole)
    (p1 p3 p4 : PosShare TreeShare) (f1 : Buf (Elt F) (arg1.view.loc (c : Thread nD τ))) (f3 : Buf (Elt F) (arg3.view.loc (c : Thread nD τ))) (f4 : Buf (Elt F) (arg4.view.loc (c : Thread nD τ)))
    (x5 : Vec F S512x1536 .fp8e4m3) (x6 : Vec F S512x1 .f32) (x7 : Vec F S1x1536x4096 .fp8e4m3) (x8 : Vec F S1x1x4096 .f32) (x9 : Vec F S512x4096 .bf16)
    (E : Set ℕ) (K : PUnit → sProp 𝕄) :
        iprop((arg1.view.loc (c : Thread nD τ) ↦{p1} f1) ∗ (arg3.view.loc (c : Thread nD τ) ↦{p3} f3) ∗ (arg4.view.loc (c : Thread nD τ) ↦{p4} f4) ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (iprop((arg1.view.loc (c : Thread nD τ) ↦{p1} f1) ∗ (arg3.view.loc (c : Thread nD τ) ↦{p3} f3) ∗ (arg4.view.loc (c : Thread nD τ) ↦{p4} f4) ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)) -∗ K ⟨⟩))
          ⊢ wp frame (wpE (defs₀ (F := F)) Variants.none c none) E (cc0_grouped_fp8_matmul i arg1 harg1 arg2 harg2 arg3 harg3 arg4 harg4 arg5 harg5 arg6 harg6 arg7 harg7 arg8 harg8 arg9 harg9) K := by
  simp only [cc0_grouped_fp8_matmul_eq_skeleton]; unfold cc0_grouped_fp8_matmul_skel
  unfold owns
  iintro ⟨H1, H3, H4, ⟨%f5, %hf5, H5⟩, ⟨%f6, %hf6, H6⟩, ⟨%f7, %hf7, H7⟩, ⟨%f8, %hf8, H8⟩, ⟨%f9, %hf9, H9⟩, Hk⟩
  sl_exec
  sl_step
  iapply Hk
  isplitl [H1]; · iexact H1
  isplitl [H3]; · iexact H3
  isplitl [H4]; · iexact H4
  isplitl [H5]; · iexists _; isplitr; swap; · iexact H5
                  ipureintro; exact hf5
  isplitl [H6]; · iexists _; isplitr; swap; · iexact H6
                  ipureintro; exact hf6
  isplitl [H7]; · iexists _; isplitr; swap; · iexact H7
                  ipureintro; exact hf7
  isplitl [H8]; · iexists _; isplitr; swap; · iexact H8
                  ipureintro; exact hf8
  iexists _, _
  isplitr
  swap
  · iexact H9
  ipureintro
  rfl

end Cert.Kernel.Hand
end
-- ==== Proof.Bits.Frame.lean ====
/- The kernel itself (the program read at machine floats), as its idealization in the module of the same name. The region's run: the proof data (each input left as found, the output within a relation `R` of what the body found
   there), the body obligation off one run of the body, the launch, and what the arguments hold at the end. -/
module

public import proofs.«01_k».proof.Proof.Bits.Table
public import proofs.«01_k».proof.Proof.Bits.Body
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables as the body is handed them -/

abbrev tbM0 : Memref sig .tc .smem S39 .i32 := Memref.whole main_v45
abbrev tbM1 : Memref sig .tc .smem S39 .i32 := Memref.whole main_v28
abbrev tbM2 : Memref sig .tc .smem S39 .i32 := Memref.whole main_v55
abbrev tbM3 : Memref sig .tc .smem S39 .i32 := Memref.whole main_v63

/-- A table's buffer on core `c`, held at half the full share. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

theorem PhiT_eq (c : Dev nD) : (Pipeline.ΦT pre0 (tbl m) c : sProp 𝕄)
    = iprop(tbPt c tbM0 (tbl m 0) ∗ tbPt c tbM1 (tbl m 1) ∗ tbPt c tbM2 (tbl m 2) ∗ tbPt c tbM3 (tbl m 3)) := by
  unfold Pipeline.ΦT Pipeline.prefHeld
  exact bigSep_univ_eq_bigSepL [(0 : Fin 4), (1 : Fin 4), (2 : Fin 4), (3 : Fin 4)] (by decide) (by decide) _

/-! ## The proof data -/

/-- What the body may leave in the output's buffer at a point, given what it found there. -/
abbrev Rel : Type := Fin (cfgM m).N → (Y X : Vec F S512x4096 .bf16) → Prop

variable (R : Dev nD → Rel (F := F) m)

/-- The proof data: inputs left as found, the output by `R`; the invariant is the scoped rest and the tables' halves. -/
def rdat (c : Dev nD) : RDat τ (Elt F) Unit ℕ (UR sig nD τ) ℕ (cfgM m) c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => R c t Y X
  Φ _ := iprop(Pipeline.ΦA spec0 c ∗ Pipeline.ΦT pre0 (tbl m) c)
  q _ := fullShare
  owed _ := 0

theorem A_eq (c : Dev nD) (w : Fin (cfgM m).W) : (rdat m R c).A w = V m c (Pipeline.arrRef spec0 w) := by
  dsimp only [rdat]

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input's buffer holds its block wherever the body is handed it. -/
theorem finds_0 (c : Dev nD) (t : Fin (cfgM m).N) (Y) (h : (rdat m R c).Finds 0 t Y) : Y = iblk m c 0 t := by
  obtain ⟨d, rfl⟩ := (rdat m R c).finds_in_eq_fetched 0 rfl (fun _ _ _ => rfl) (fun _ _ _ h => h) t Y h
  rfl
theorem finds_1 (c : Dev nD) (t : Fin (cfgM m).N) (Y) (h : (rdat m R c).Finds 1 t Y) : Y = iblk m c 1 t := by
  obtain ⟨d, rfl⟩ := (rdat m R c).finds_in_eq_fetched 1 rfl (fun _ _ _ => rfl) (fun _ _ _ h => h) t Y h
  rfl
theorem finds_2 (c : Dev nD) (t : Fin (cfgM m).N) (Y) (h : (rdat m R c).Finds 2 t Y) : Y = iblk m c 2 t := by
  obtain ⟨d, rfl⟩ := (rdat m R c).finds_in_eq_fetched 2 rfl (fun _ _ _ => rfl) (fun _ _ _ h => h) t Y h
  rfl
theorem finds_3 (c : Dev nD) (t : Fin (cfgM m).N) (Y) (h : (rdat m R c).Finds 3 t Y) : Y = iblk m c 3 t := by
  obtain ⟨d, rfl⟩ := (rdat m R c).finds_in_eq_fetched 3 rfl (fun _ _ _ => rfl) (fun _ _ _ h => h) t Y h
  rfl

/-! ## The body at a point -/

/-- Each window's staging buffer at point `t`. -/
abbrev ms0 (t : Fin (cfgM m).N) : Memref sig .tc .vmem S512x1536 .fp8e4m3 := spec0_0.stage ((cfgM m).slots t 0)
abbrev ms1 (t : Fin (cfgM m).N) : Memref sig .tc .vmem S512x1 .f32 := spec0_1.stage ((cfgM m).slots t 1)
abbrev ms2 (t : Fin (cfgM m).N) : Memref sig .tc .vmem S1x1536x4096 .fp8e4m3 := spec0_2.stage ((cfgM m).slots t 2)
abbrev ms3 (t : Fin (cfgM m).N) : Memref sig .tc .vmem S1x1x4096 .f32 := spec0_3.stage ((cfgM m).slots t 3)
abbrev ms4 (t : Fin (cfgM m).N) : Memref sig .tc .vmem S512x4096 .bf16 := spec0_4.stage ((cfgM m).slots t 4)

/-- The body at point `t`, on what the pipeline calls it with. -/
abbrev bodyAt (t : Fin (cfgM m).N) : Prog (TpuEff nD τ sig (Elt F) Λ₀ .tc) PUnit :=
  cc0_grouped_fp8_matmul (grid0.coords t) tbM0 (Memref.isWhole_whole _) tbM1 (Memref.isWhole_whole _)
    tbM2 (Memref.isWhole_whole _) tbM3 (Memref.isWhole_whole _)
    (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2))
    (spec0_3.stage ((cfgM m).slots t 3)) (hstage0_3 (((cfgM m).slots t 3).cast nbuf0_3))
    (spec0_4.stage ((cfgM m).slots t 4)) (hstage0_4 (((cfgM m).slots t 4).cast nbuf0_4))

theorem defs₀_row (t : Fin (cfgM m).N) :
    defs₀ (F := F) .tc (cfgM m).body ((cfgM m).bodyArgs t ((cfgM m).slots t)) = bodyAt m t := by
  unfold defs₀; rw [Defs.onTc_tc]

/-- The body's run at a point, as the pipeline's data ask for it: off the tables' halves and the five buffers. -/
abbrev BodyAt (c : Dev nD) (t : Fin (cfgM m).N) : Prop :=
  ∀ (x9 : Vec F S512x4096 .bf16) (K : PUnit → sProp 𝕄),
    iprop(tbPt c tbM0 (tbl m 0) ∗ tbPt c tbM2 (tbl m 2) ∗ tbPt c tbM3 (tbl m 3)
        ∗ owns (c : Thread nD τ) (ms0 m t) fullShare (iblk m c 0 t) ∗ owns (c : Thread nD τ) (ms1 m t) fullShare (iblk m c 1 t)
        ∗ owns (c : Thread nD τ) (ms2 m t) fullShare (iblk m c 2 t) ∗ owns (c : Thread nD τ) (ms3 m t) fullShare (iblk m c 3 t)
        ∗ owns (c : Thread nD τ) (ms4 m t) fullShare x9
        ∗ (iprop(tbPt c tbM0 (tbl m 0) ∗ tbPt c tbM2 (tbl m 2) ∗ tbPt c tbM3 (tbl m 3)
          ∗ owns (c : Thread nD τ) (ms0 m t) fullShare (iblk m c 0 t) ∗ owns (c : Thread nD τ) (ms1 m t) fullShare (iblk m c 1 t)
          ∗ owns (c : Thread nD τ) (ms2 m t) fullShare (iblk m c 2 t) ∗ owns (c : Thread nD τ) (ms3 m t) fullShare (iblk m c 3 t)
          ∗ (∃ d, ⌜R c t x9 d⌝ ∗ owns (c : Thread nD τ) (ms4 m t) fullShare d)) -∗ K ⟨⟩))
      ⊢ wp frame (wpE (defs₀ (F := F)) Variants.none c none) Set.univ (bodyAt m t) K

/-- The body obligation off the body's run. -/
theorem body_obligation (hR : ∀ c t, BodyAt m R c t) (c : Dev nD) :
    (rdat m R c).BodyObligation (defs₀ (F := F)) Variants.none () Set.univ := fun t Y hY => by
  rw [bigSep_W0, bigSep_W0, defs₀_row m]
  rw [show Y 0 = iblk m c 0 t from finds_0 m R c t _ (hY 0), show Y 1 = iblk m c 1 t from finds_1 m R c t _ (hY 1),
    show Y 2 = iblk m c 2 t from finds_2 m R c t _ (hY 2), show Y 3 = iblk m c 3 t from finds_3 m R c t _ (hY 3)]
  rw [show (rdat m R c).Φ t.succ = iprop(Pipeline.ΦA spec0 c ∗ Pipeline.ΦT pre0 (tbl m) c) from rfl,
    show (rdat m R c).Φ t.castSucc = iprop(Pipeline.ΦA spec0 c ∗ Pipeline.ΦT pre0 (tbl m) c) from rfl,
    show (rdat m R c).owesAt () t.succ = (rdat m R c).owesAt () t.castSucc from rfl, PhiT_eq]
  iintro ⟨⟨HΦ, HT0, HT1, HT2, HT3⟩, Ho, H0, H1, H2, H3, H4⟩
  iapply (hR c t (Y 4) _)
  isplitl [HT0]; · iexact HT0
  isplitl [HT2]; · iexact HT2
  isplitl [HT3]; · iexact HT3
  isplitl [H0]; · iexact H0
  isplitl [H1]; · iexact H1
  isplitl [H2]; · iexact H2
  isplitl [H3]; · iexact H3
  isplitl [H4]; · iexact H4
  iintro ⟨HT0, HT2, HT3, H0, H1, H2, H3, ⟨%d, %hd, H4⟩⟩
  isplitl [HΦ HT0 HT1 HT2 HT3]
  · isplitl [HΦ]; · iexact HΦ
    isplitl [HT0]; · iexact HT0
    isplitl [HT1]; · iexact HT1
    isplitl [HT2]; · iexact HT2
    iexact HT3
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  iexists d; isplitr; swap; · iexact H4
  ipureintro; exact hd

/-! ## The run -/

set_option backward.isDefEq.respectTransparency.types false in
/-- The launch: every array ends within the data's relation, every other buffer as the region found it, and every
    semaphore counter at zero. -/
theorem run_main (hR : ∀ c t, BodyAt m R c t) :
    θ_run defs (onTc (τ := τ) (main (F := F))) (s₀ m ρ) (fun r => RDat.FramePost (cfgM m) (rdat m R) (V m) r ∧ r.2.sem = fun _ => 0) :=
  RDat.θ_run_frameP (Q' := _) pcfgs (fun _ => adm m) (0 : Fin 1) launch0 defs₀ Variants.none (rdat m R) m ρ main
    (hbody := body_obligation m R hR) (hshare := fun c => (rdat m R c).share_full fun _ => rfl)
    (howed := fun _ _ => rfl) (V := V m) (hmain := hmain m Variants.none) (hA := A_eq m R) (hpf := V_pre m)
    (hΦ := fun _ _ => rfl)

/-- The arguments end as they were. -/
theorem args_kept {r : PUnit × MemSt nD τ sig (Elt F)} (h : RDat.FramePost (cfgM m) (rdat m R) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(RDat.FramePost.arr_in h c 0 rfl).trans (V_main_arg0 m c), (RDat.FramePost.arr_in h c 1 rfl).trans (V_main_arg1 m c),
    ((h c).2 main_arg2 (by decide : main_arg2 ∈ Pipeline.restRefs sig spec0)).trans (V_main_arg2 m c), (RDat.FramePost.arr_in h c 2 rfl).trans (V_main_arg3 m c),
    ((h c).2 main_arg4 (by decide : main_arg4 ∈ Pipeline.restRefs sig spec0)).trans (V_main_arg4 m c)⟩

/-! ## The frame: nothing said of the output -/

theorem body_free (c : Dev nD) (t : Fin (cfgM m).N) : BodyAt m (fun _ _ _ _ => True) c t := fun x9 K => by
  iintro ⟨HT0, HT2, HT3, H0, H1, H2, H3, H4, Hk⟩
  iapply (bodyRun c (grid0.coords t) _ _ _ _ _ _ _ _ _ _ _ _ _ _ _ _ _ _ fullShare.right fullShare.right fullShare.right
    (tbl m 0) (tbl m 2) (tbl m 3) (iblk m c 0 t) (iblk m c 1 t) (iblk m c 2 t) (iblk m c 3 t) x9 Set.univ K)
  isplitl [HT0]; · iexact HT0
  isplitl [HT2]; · iexact HT2
  isplitl [HT3]; · iexact HT3
  isplitl [H0]; · iexact H0
  isplitl [H1]; · iexact H1
  isplitl [H2]; · iexact H2
  isplitl [H3]; · iexact H3
  isplitl [H4]; · iexact H4
  iintro ⟨HT0, HT2, HT3, H0, H1, H2, H3, ⟨%d, H4⟩⟩
  iapply Hk
  isplitl [HT0]; · iexact HT0
  isplitl [HT2]; · iexact HT2
  isplitl [HT3]; · iexact HT3
  isplitl [H0]; · iexact H0
  isplitl [H1]; · iexact H1
  isplitl [H2]; · iexact H2
  isplitl [H3]; · iexact H3
  iexists d
  isplitr; swap; · iexact H4
  ipureintro; trivial

/-- The frame claim: the program ends, its arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_kept m _ h.1 c, h.2⟩) (run_main m ρ _ (body_free m))

end Cert.Kernel.Hand
end
-- ==== Proof.Canon.lean ====
/- What one block of the body stores, in plain terms: the scaled products of 128 rows against 512 columns of one
   expert's weights, where the rows that are not the expert's are masked out. -/
module

public import proofs.«01_k».proof.Proof.Gen.KernelIdeal.Launch
public import proofs.«01_k».proof.Proof.Gen.KernelIdeal.Skeleton
public import Idealize.ShloMosaic.Lib.MatmulPlain
public import Idealize.ShloMosaic.Lib.ValueIdx
public import Idealize.ShloMosaic.Lib.ValueLayout
public import Idealize.ShloMosaic.Lib.WordCmp
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.TcCoe
open Idealize.ShloMosaic.ValueIdx Idealize.ShloMosaic.WordCmp

variable {F : FTy → Type} [FloatOps F]

/-! ## The words of a block: its first row, its rows, which of them are the expert's -/

/-- The first row of sub-block `s` of tile `v1`. -/
def row0 (s : ℕ) (v1 : BitVec 32) : BitVec 32 := Scalar.addi (Scalar.muli v1 512#32) (BitVec.ofNat 32 (128 * s))

/-- Which of the 128 rows from `b` lie in `[lo, hi)`. -/
def mineV (b lo hi : BitVec 32) : IVec S128x1 1 :=
  andi (cmpi .sge (addi (broadcast S128x1 b) (iota .tc S128x1 32 [0] iota_S128x1_d0_w32)) (broadcast S128x1 lo))
    (cmpi .slt (addi (broadcast S128x1 b) (iota .tc S128x1 32 [0] iota_S128x1_d0_w32)) (broadcast S128x1 hi))

/-! ## The block's values -/

/-- 128 rows of tokens against 512 columns of one expert's weights, scaled by row and by column. -/
def scaledV (x : Vec F S128x1536 .fp8e4m3) (w : Vec F S1x1536x512 .fp8e4m3) (xs : Vec F S128x1 .f32) (ws : Vec F S1x1x512 .f32) :
    FVec F S128x512 .f32 :=
  mulf (mulf (matmul dot_S128x1536_S1536x512_S128x512_1_0_0_1_n_n none x (shapeCast S1536x512 w shapeCasts_S1x1536x512_S1536x512)
      (constant S128x512 .f32 0x00000000#32))
    (broadcastTo S128x512 xs broadcasts_S128x1_S128x512))
    (broadcastTo S128x512 (shapeCast S1x512 ws shapeCasts_S1x1x512_S1x512) broadcasts_S1x512_S128x512)

/-- What a block stores where all its rows are the expert's. -/
def covV (x : Vec F S128x1536 .fp8e4m3) (w : Vec F S1x1536x512 .fp8e4m3) (xs : Vec F S128x1 .f32) (ws : Vec F S1x1x512 .f32) :
    FVec F S128x512 .bf16 :=
  truncf .bf16 (scaledV x w xs ws) bitsLt_bf16_f32

/-- What a block stores where only some of its rows are the expert's: `alt` in the others. -/
def whV (mine : IVec S128x1 1) (v alt : FVec F S128x512 .f32) : FVec F S128x512 .bf16 :=
  truncf .bf16 (select (broadcastTo S128x512 (shapeCast S128x1 mine shapeCasts_S128x1_S128x1) broadcasts_S128x1_S128x512) v alt)
    bitsLt_bf16_f32

/-- Zeros in the rows that are not the expert's. -/
def zeroV (b lo hi : BitVec 32) (x : Vec F S128x1536 .fp8e4m3) (w : Vec F S1x1536x512 .fp8e4m3) (xs : Vec F S128x1 .f32)
    (ws : Vec F S1x1x512 .f32) : FVec F S128x512 .bf16 :=
  whV (mineV b lo hi) (scaledV x w xs ws) (broadcast S128x512 (Scalar.ofBits .f32 0x00000000#32))

/-- The old contents in the rows that are not the expert's. -/
def keepV (b lo hi : BitVec 32) (old : Vec F S128x512 .bf16) (x : Vec F S128x1536 .fp8e4m3) (w : Vec F S1x1536x512 .fp8e4m3)
    (xs : Vec F S128x1 .f32) (ws : Vec F S1x1x512 .f32) : FVec F S128x512 .bf16 :=
  whV (mineV b lo hi) (scaledV x w xs ws) (extf .f32 (shapeCast S128x512 old shapeCasts_S128x512_S128x512) bitsLt_bf16_f32)

/-! ## Read at an index, over the extended reals -/

theorem shapeCast_same {s : Shape} {α : Type} (x : s.Idx → α) (h : s.ShapeCasts s) : shapeCast s x h = x := by
  funext j
  show x (Shape.reshapeEquiv h j) = x j
  congr 1
  simp [Shape.reshapeEquiv]

theorem broadcast_col {α : Type} {a b : ℕ} (v : (⟨2, ![a, 1]⟩ : Shape).Idx → α) (h : (⟨2, ![a, 1]⟩ : Shape).Broadcasts ⟨2, ![a, b]⟩)
    (r : Fin a) (q : Fin b) : broadcastTo ⟨2, ![a, b]⟩ v h (ix2 r q) = v (ix2 r 0) := by
  refine broadcastTo_apply v h (ix2 r q) (ix2 r 0) fun ax => ?_
  match ax with
  | ⟨0, _⟩ =>
    show r.val = if a = 1 then 0 else r.val
    split
    · have := r.isLt; omega
    · rfl
  | ⟨1, _⟩ => rfl

theorem scaledV_apply (x : Vec Ideal S128x1536 .fp8e4m3) (w : Vec Ideal S1x1536x512 .fp8e4m3) (xs : Vec Ideal S128x1 .f32)
    (ws : Vec Ideal S1x1x512 .f32) (r : Fin 128) (q : Fin 512) :
    scaledV x w xs ws (ix2 r q) = (∑ k : Fin 1536, x (ix2 r k) * w (ix3 0 k q)) * xs (ix2 r 0) * ws (ix3 0 0 q) := by
  have hm : matmul (F := Ideal) (φ₁ := .fp8e4m3) (φ₂ := .fp8e4m3) dot_S128x1536_S1536x512_S128x512_1_0_0_1_n_n none x (shapeCast S1536x512 w shapeCasts_S1x1536x512_S1536x512)
      (constant S128x512 .f32 0x00000000#32) (ix2 r q) = ∑ k : Fin 1536, x (ix2 r k) * w (ix3 0 k q) := by
    refine (Ideal.matmul_plain_apply (M := 128) (K := 1536) (N := 512) none x _ _ r q).trans ?_
    have h0 : (constant (F := Ideal) S128x512 .f32 0x00000000#32) (ix2 r q) = 0 := Ideal.ofBits_zero_f32
    rw [h0, zero_add]
    exact Finset.sum_congr rfl fun k _ => congrArg (x (ix2 r k) * ·) (shapeCast_1ab_ab_apply w _ k q)
  show _ * _ * _ = _
  rw [hm]
  congr 1
  · congr 1
    exact broadcast_col xs _ r q
  · exact (broadcastTo_1b_ab_apply _ _ r q).trans (shapeCast_1ab_ab_apply ws _ 0 q)

theorem covV_apply (x : Vec Ideal S128x1536 .fp8e4m3) (w : Vec Ideal S1x1536x512 .fp8e4m3) (xs : Vec Ideal S128x1 .f32)
    (ws : Vec Ideal S1x1x512 .f32) (r : Fin 128) (q : Fin 512) :
    covV x w xs ws (ix2 r q) = (∑ k : Fin 1536, x (ix2 r k) * w (ix3 0 k q)) * xs (ix2 r 0) * ws (ix3 0 0 q) :=
  scaledV_apply x w xs ws r q

theorem whV_apply (mine : IVec S128x1 1) (v alt : FVec Ideal S128x512 .f32) (r : Fin 128) (q : Fin 512) :
    whV mine v alt (ix2 r q) = if mine (ix2 r 0) = 1#1 then v (ix2 r q) else alt (ix2 r q) := by
  show Scalar.select (broadcastTo S128x512 _ _ (ix2 r q)) (v (ix2 r q)) (alt (ix2 r q)) = _
  rw [broadcast_col (a := 128) (b := 512), shapeCast_same]
  rfl

theorem and_ofBool (p q : Prop) [Decidable p] [Decidable q] :
    Scalar.andi (BitVec.ofBool (decide p)) (BitVec.ofBool (decide q)) = BitVec.ofBool (decide (p ∧ q)) := by
  by_cases hp : p <;> by_cases hq : q <;> simp [hp, hq, Scalar.andi, IntOp.andi]

theorem ofBool_iff (p : Prop) [Decidable p] : BitVec.ofBool (decide p) = 1#1 ↔ p := by
  by_cases hp : p <;> simp [hp]

theorem row0_ofNat (s t : ℕ) : row0 s (BitVec.ofNat 32 t) = BitVec.ofNat 32 (t * 512 + 128 * s) := by
  show IntOp.addi (IntOp.muli _ (BitVec.ofNat 32 512)) _ = _
  rw [muli_ofNat, addi_ofNat]

theorem mineV_iff (b lo hi : ℕ) (hb : b ≤ 100000) (hlo : lo ≤ 100000) (hhi : hi ≤ 100000) (r : Fin 128) :
    mineV (BitVec.ofNat 32 b) (BitVec.ofNat 32 lo) (BitVec.ofNat 32 hi) (ix2 r 0) = 1#1 ↔ lo ≤ b + r.val ∧ b + r.val < hi := by
  have hr := r.isLt
  have e : (addi (broadcast S128x1 (BitVec.ofNat 32 b)) (iota .tc S128x1 32 [0] iota_S128x1_d0_w32)) (ix2 r 0) = BitVec.ofNat 32 (b + r.val) := by
    show IntOp.addi (BitVec.ofNat 32 b) (BitVec.ofNat 32 (0 * _ + r.val)) = _
    rw [addi_ofNat, Nat.zero_mul, Nat.zero_add]
  show IntOp.andi (IntOp.cmpi .sge _ (BitVec.ofNat 32 lo)) (IntOp.cmpi .slt _ (BitVec.ofNat 32 hi)) = 1#1 ↔ _
  rw [e, cmpi_sge_eq, cmpi_slt_eq, toInt_ofNat_of_lt (by omega), toInt_ofNat_of_lt (by omega), toInt_ofNat_of_lt (by omega)]
  simp only [Nat.cast_le, Nat.cast_lt]
  exact (congrArg (· = 1#1) (and_ofBool (lo ≤ b + r.val) (b + r.val < hi))).to_iff.trans (ofBool_iff _)

/-! ## The three guards of a block -/

/-- The block shares a row with the expert's `[lo, hi)`. -/
def touchW (b lo hi : BitVec 32) : BitVec 1 :=
  Scalar.andi (Scalar.cmpi .slt lo (Scalar.addi b 128#32)) (Scalar.cmpi .sgt hi b)
/-- A guard bit as the branch tests it. -/
def guardW (p : BitVec 1) : BitVec 1 := Scalar.cmpi .ne (Scalar.extui p) 0#32
/-- All the block's rows are the expert's. -/
def covW (b lo hi : BitVec 32) : BitVec 1 :=
  guardW (Scalar.andi (touchW b lo hi) (Scalar.andi (Scalar.cmpi .sle lo b) (Scalar.cmpi .sge hi (Scalar.addi b 128#32))))
/-- The expert's rows begin at or before the block and end within it. -/
def zeroW (b lo hi : BitVec 32) : BitVec 1 :=
  guardW (Scalar.andi (touchW b lo hi) (Scalar.andi (Scalar.cmpi .sle lo b) (Scalar.cmpi .slt hi (Scalar.addi b 128#32))))
/-- The expert's rows begin within the block. -/
def keepW (b lo hi : BitVec 32) : BitVec 1 :=
  guardW (Scalar.andi (touchW b lo hi) (Scalar.cmpi .sgt lo b))

theorem guardW_iff (p : BitVec 1) : guardW p = 1#1 ↔ p = 1#1 := by
  revert p; decide

section
variable (b lo hi : ℕ) (hb : b ≤ 100000) (hlo : lo ≤ 100000) (hhi : hi ≤ 100000)
include hb hlo hhi

theorem touchW_eq : touchW (BitVec.ofNat 32 b) (BitVec.ofNat 32 lo) (BitVec.ofNat 32 hi)
    = BitVec.ofBool (decide (lo < b + 128 ∧ b < hi)) := by
  unfold touchW
  rw [show Scalar.addi (BitVec.ofNat 32 b) 128#32 = BitVec.ofNat 32 (b + 128) from addi_ofNat b 128]
  rw [show Scalar.cmpi .slt (BitVec.ofNat 32 lo) (BitVec.ofNat 32 (b + 128)) = BitVec.ofBool (decide (lo < b + 128)) from by
      show IntOp.cmpi _ _ _ = _
      rw [cmpi_slt_eq, toInt_ofNat_of_lt (by omega), toInt_ofNat_of_lt (by omega)]; simp only [Nat.cast_lt],
    show Scalar.cmpi .sgt (BitVec.ofNat 32 hi) (BitVec.ofNat 32 b) = BitVec.ofBool (decide (b < hi)) from by
      show IntOp.cmpi _ _ _ = _
      rw [cmpi_sgt_eq, toInt_ofNat_of_lt (by omega), toInt_ofNat_of_lt (by omega)]; simp only [Nat.cast_lt],
    and_ofBool]

theorem le_eq : Scalar.cmpi .sle (BitVec.ofNat 32 lo) (BitVec.ofNat 32 b) = BitVec.ofBool (decide (lo ≤ b)) := by
  show IntOp.cmpi _ _ _ = _
  rw [cmpi_sle_eq, toInt_ofNat_of_lt (by omega), toInt_ofNat_of_lt (by omega)]; simp only [Nat.cast_le]

theorem covW_iff : covW (BitVec.ofNat 32 b) (BitVec.ofNat 32 lo) (BitVec.ofNat 32 hi) = 1#1
    ↔ (lo < b + 128 ∧ b < hi) ∧ lo ≤ b ∧ b + 128 ≤ hi := by
  unfold covW
  rw [guardW_iff, touchW_eq b lo hi hb hlo hhi, le_eq b lo hi hb hlo hhi,
    show Scalar.cmpi .sge (BitVec.ofNat 32 hi) (Scalar.addi (BitVec.ofNat 32 b) 128#32) = BitVec.ofBool (decide (b + 128 ≤ hi)) from by
      show IntOp.cmpi _ _ (IntOp.addi _ (BitVec.ofNat 32 128)) = _
      rw [addi_ofNat, cmpi_sge_eq, toInt_ofNat_of_lt (by omega), toInt_ofNat_of_lt (by omega)]; simp only [Nat.cast_le],
    and_ofBool, and_ofBool, ofBool_iff]

theorem zeroW_iff : zeroW (BitVec.ofNat 32 b) (BitVec.ofNat 32 lo) (BitVec.ofNat 32 hi) = 1#1
    ↔ (lo < b + 128 ∧ b < hi) ∧ lo ≤ b ∧ hi < b + 128 := by
  unfold zeroW
  rw [guardW_iff, touchW_eq b lo hi hb hlo hhi, le_eq b lo hi hb hlo hhi,
    show Scalar.cmpi .slt (BitVec.ofNat 32 hi) (Scalar.addi (BitVec.ofNat 32 b) 128#32) = BitVec.ofBool (decide (hi < b + 128)) from by
      show IntOp.cmpi _ _ (IntOp.addi _ (BitVec.ofNat 32 128)) = _
      rw [addi_ofNat, cmpi_slt_eq, toInt_ofNat_of_lt (by omega), toInt_ofNat_of_lt (by omega)]; simp only [Nat.cast_lt],
    and_ofBool, and_ofBool, ofBool_iff]

theorem keepW_iff : keepW (BitVec.ofNat 32 b) (BitVec.ofNat 32 lo) (BitVec.ofNat 32 hi) = 1#1
    ↔ (lo < b + 128 ∧ b < hi) ∧ b < lo := by
  unfold keepW
  rw [guardW_iff, touchW_eq b lo hi hb hlo hhi,
    show Scalar.cmpi .sgt (BitVec.ofNat 32 lo) (BitVec.ofNat 32 b) = BitVec.ofBool (decide (b < lo)) from by
      show IntOp.cmpi _ _ _ = _
      rw [cmpi_sgt_eq, toInt_ofNat_of_lt (by omega), toInt_ofNat_of_lt (by omega)]; simp only [Nat.cast_lt],
    and_ofBool, ofBool_iff]
end

end Cert.KernelIdeal.Hand
end
-- ==== Proof.Block.lean ====
/- One sub-block of the body: 128 rows of the tile, written in eight column blocks under one of three guards. Whatever
   the guard, the rows that are the expert's hold their scaled products, and the rows before the expert's are kept. -/
module

public import proofs.«01_k».proof.Proof.Canon
public import Idealize.ShloMosaic.Lib.Writes
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe
open Idealize.ShloMosaic.ValueIdx Idealize.ShloMosaic.WordCmp

variable {F : FTy → Type} [FloatOps F]

/-! ## What a sub-block loads -/

theorem inbX (s : ℕ) (hs : s < 4) : ∀ a, (![128 * s, 0] : Fin 2 → ℕ) a + S128x1536.size a ≤ S512x1536.size a := fun a => by
  match a with
  | ⟨0, _⟩ => show 128 * s + 128 ≤ 512; omega
  | ⟨1, _⟩ => show 0 + 1536 ≤ 1536; omega
theorem inbXs (s : ℕ) (hs : s < 4) : ∀ a, (![128 * s, 0] : Fin 2 → ℕ) a + S128x1.size a ≤ S512x1.size a := fun a => by
  match a with
  | ⟨0, _⟩ => show 128 * s + 128 ≤ 512; omega
  | ⟨1, _⟩ => show 0 + 1 ≤ 1; omega
theorem inbW (j : ℕ) (hj : j < 8) : ∀ a, (![0, 0, 512 * j] : Fin 3 → ℕ) a + S1x1536x512.size a ≤ S1x1536x4096.size a := fun a => by
  match a with
  | ⟨0, _⟩ => show 0 + 1 ≤ 1; omega
  | ⟨1, _⟩ => show 0 + 1536 ≤ 1536; omega
  | ⟨2, _⟩ => show 512 * j + 512 ≤ 4096; omega
theorem inbWs (j : ℕ) (hj : j < 8) : ∀ a, (![0, 0, 512 * j] : Fin 3 → ℕ) a + S1x1x512.size a ≤ S1x1x4096.size a := fun a => by
  match a with
  | ⟨0, _⟩ => show 0 + 1 ≤ 1; omega
  | ⟨1, _⟩ => show 0 + 1 ≤ 1; omega
  | ⟨2, _⟩ => show 512 * j + 512 ≤ 4096; omega
theorem inbO (s : ℕ) (hs : s < 4) (j : ℕ) (hj : j < 8) : ∀ a, (![128 * s, 512 * j] : Fin 2 → ℕ) a + S128x512.size a ≤ S512x4096.size a := fun a => by
  match a with
  | ⟨0, _⟩ => show 128 * s + 128 ≤ 512; omega
  | ⟨1, _⟩ => show 512 * j + 512 ≤ 4096; omega

variable (v5 : View sig .tc .vmem S512x1536 .fp8e4m3) (v6 : View sig .tc .vmem S512x1 .f32)
  (v7 : View sig .tc .vmem S1x1536x4096 .fp8e4m3) (v8 : View sig .tc .vmem S1x1x4096 .f32) (v9 : View sig .tc .vmem S512x4096 .bf16)
  (f5 : v5.ty.Contents (Elt F)) (f6 : v6.ty.Contents (Elt F)) (f7 : v7.ty.Contents (Elt F)) (f8 : v8.ty.Contents (Elt F))
  (g : v9.ty.Contents (Elt F))

/-- The tokens of sub-block `s`. -/
def xL (s : ℕ) (hs : s < 4) : Vec F S128x1536 .fp8e4m3 :=
  View.readAt (Elt F) v5 (Rect.unit (s := S512x1536) ![128 * s, 0] S128x1536.size (inbX s hs)).toLoadRect f5
/-- Their scales. -/
def xsL (s : ℕ) (hs : s < 4) : Vec F S128x1 .f32 :=
  View.readAt (Elt F) v6 (Rect.unit (s := S512x1) ![128 * s, 0] S128x1.size (inbXs s hs)).toLoadRect f6
/-- The `j`-th 512 columns of the expert's weights. -/
def wL (j : Fin 8) : Vec F S1x1536x512 .fp8e4m3 :=
  View.readAt (Elt F) v7 (Rect.unit (s := S1x1536x4096) ![0, 0, 512 * j.val] S1x1536x512.size (inbW j.val j.isLt)).toLoadRect f7
/-- Their scales. -/
def wsL (j : Fin 8) : Vec F S1x1x512 .f32 :=
  View.readAt (Elt F) v8 (Rect.unit (s := S1x1x4096) ![0, 0, 512 * j.val] S1x1x512.size (inbWs j.val j.isLt)).toLoadRect f8
/-- The sub-block's contents in those columns. -/
def oL (s : ℕ) (hs : s < 4) (j : Fin 8) : Vec F S128x512 .bf16 :=
  View.readAt (Elt F) v9 (Rect.unit (s := S512x4096) ![128 * s, 512 * j.val] S128x512.size (inbO s hs j.val j.isLt)).toLoadRect g

theorem row_lt {s : ℕ} (hs : s < 4) (r : Fin 128) : 128 * s + r.val < 512 := by have := r.isLt; omega
theorem col_lt (j : Fin 8) (q : Fin 512) : 512 * j.val + q.val < 4096 := by have := j.isLt; have := q.isLt; omega

section Loads
variable (s : ℕ) (hs : s < 4) (j : Fin 8) (r : Fin 128) (q : Fin 512) (k : Fin 1536)

theorem xL_apply : xL v5 f5 s hs (ix2 r k) = v5.read (Elt F) f5 (ix2 ⟨128 * s + r.val, row_lt hs r⟩ k) := by
  unfold xL
  show v5.read (Elt F) f5 _ = _
  congr 1
  funext a
  match a with
  | ⟨0, _⟩ => exact Fin.ext (congrArg (128 * s + ·) (Nat.one_mul r.val))
  | ⟨1, _⟩ => exact Fin.ext ((Nat.zero_add _).trans (Nat.one_mul k.val))
theorem xsL_apply : xsL v6 f6 s hs (ix2 r 0) = v6.read (Elt F) f6 (ix2 ⟨128 * s + r.val, row_lt hs r⟩ 0) := by
  unfold xsL
  show v6.read (Elt F) f6 _ = _
  congr 1
  funext a
  match a with
  | ⟨0, _⟩ => exact Fin.ext (congrArg (128 * s + ·) (Nat.one_mul r.val))
  | ⟨1, _⟩ => exact Fin.ext rfl
theorem wL_apply : wL v7 f7 j (ix3 0 k q) = v7.read (Elt F) f7 (ix3 0 k ⟨512 * j.val + q.val, col_lt j q⟩) := by
  unfold wL
  show v7.read (Elt F) f7 _ = _
  congr 1
  funext a
  match a with
  | ⟨0, _⟩ => exact Fin.ext rfl
  | ⟨1, _⟩ => exact Fin.ext ((Nat.zero_add _).trans (Nat.one_mul k.val))
  | ⟨2, _⟩ => exact Fin.ext (congrArg (512 * j.val + ·) (Nat.one_mul q.val))
theorem wsL_apply : wsL v8 f8 j (ix3 0 0 q) = v8.read (Elt F) f8 (ix3 0 0 ⟨512 * j.val + q.val, col_lt j q⟩) := by
  unfold wsL
  show v8.read (Elt F) f8 _ = _
  congr 1
  funext a
  match a with
  | ⟨0, _⟩ => exact Fin.ext rfl
  | ⟨1, _⟩ => exact Fin.ext rfl
  | ⟨2, _⟩ => exact Fin.ext (congrArg (512 * j.val + ·) (Nat.one_mul q.val))
theorem oL_apply : oL v9 g s hs j (ix2 r q)
    = v9.read (Elt F) g (ix2 ⟨128 * s + r.val, row_lt hs r⟩ ⟨512 * j.val + q.val, col_lt j q⟩) := by
  unfold oL
  show v9.read (Elt F) g _ = _
  congr 1
  funext a
  match a with
  | ⟨0, _⟩ => exact Fin.ext (congrArg (128 * s + ·) (Nat.one_mul r.val))
  | ⟨1, _⟩ => exact Fin.ext (congrArg (512 * j.val + ·) (Nat.one_mul q.val))
end Loads

/-! ## Eight stores side by side -/

/-- The eight stores of a sub-block, the last first. -/
def pcs (s : ℕ) (hs : s < 4) (P : Fin 8 → FVec F S128x512 .bf16) : List (View.Piece (Elt F) S512x4096 .bf16) :=
  [⟨Rect.unit (s := S512x4096) ![128 * s, 512 * 7] S128x512.size (inbO s hs 7 (by decide)), P 7⟩,
   ⟨Rect.unit (s := S512x4096) ![128 * s, 512 * 6] S128x512.size (inbO s hs 6 (by decide)), P 6⟩,
   ⟨Rect.unit (s := S512x4096) ![128 * s, 512 * 5] S128x512.size (inbO s hs 5 (by decide)), P 5⟩,
   ⟨Rect.unit (s := S512x4096) ![128 * s, 512 * 4] S128x512.size (inbO s hs 4 (by decide)), P 4⟩,
   ⟨Rect.unit (s := S512x4096) ![128 * s, 512 * 3] S128x512.size (inbO s hs 3 (by decide)), P 3⟩,
   ⟨Rect.unit (s := S512x4096) ![128 * s, 512 * 2] S128x512.size (inbO s hs 2 (by decide)), P 2⟩,
   ⟨Rect.unit (s := S512x4096) ![128 * s, 512 * 1] S128x512.size (inbO s hs 1 (by decide)), P 1⟩,
   ⟨Rect.unit (s := S512x4096) ![128 * s, 512 * 0] S128x512.size (inbO s hs 0 (by decide)), P 0⟩]

/-- The same, their values given one by one. -/
abbrev pcsL (s : ℕ) (hs : s < 4) (p0 p1 p2 p3 p4 p5 p6 p7 : FVec F S128x512 .bf16) : List (View.Piece (Elt F) S512x4096 .bf16) :=
  [⟨Rect.unit (s := S512x4096) ![128 * s, 512 * 7] S128x512.size (inbO s hs 7 (by decide)), p7⟩,
   ⟨Rect.unit (s := S512x4096) ![128 * s, 512 * 6] S128x512.size (inbO s hs 6 (by decide)), p6⟩,
   ⟨Rect.unit (s := S512x4096) ![128 * s, 512 * 5] S128x512.size (inbO s hs 5 (by decide)), p5⟩,
   ⟨Rect.unit (s := S512x4096) ![128 * s, 512 * 4] S128x512.size (inbO s hs 4 (by decide)), p4⟩,
   ⟨Rect.unit (s := S512x4096) ![128 * s, 512 * 3] S128x512.size (inbO s hs 3 (by decide)), p3⟩,
   ⟨Rect.unit (s := S512x4096) ![128 * s, 512 * 2] S128x512.size (inbO s hs 2 (by decide)), p2⟩,
   ⟨Rect.unit (s := S512x4096) ![128 * s, 512 * 1] S128x512.size (inbO s hs 1 (by decide)), p1⟩,
   ⟨Rect.unit (s := S512x4096) ![128 * s, 512 * 0] S128x512.size (inbO s hs 0 (by decide)), p0⟩]

/-- The eight values as a family. -/
abbrev fam (p0 p1 p2 p3 p4 p5 p6 p7 : FVec F S128x512 .bf16) : Fin 8 → FVec F S128x512 .bf16 := ![p0, p1, p2, p3, p4, p5, p6, p7]

theorem pcsL_eq (s : ℕ) (hs : s < 4) (p0 p1 p2 p3 p4 p5 p6 p7 : FVec F S128x512 .bf16) :
    pcsL s hs p0 p1 p2 p3 p4 p5 p6 p7 = pcs s hs (fam p0 p1 p2 p3 p4 p5 p6 p7) := rfl

/-- A property of eight indices, one at a time. -/
theorem all8 {P : Fin 8 → Prop} (h0 : P 0) (h1 : P 1) (h2 : P 2) (h3 : P 3) (h4 : P 4) (h5 : P 5) (h6 : P 6) (h7 : P 7) : ∀ j, P j := by
  intro j
  fin_cases j <;> assumption

/-- The `j`-th of them. -/
def pc (s : ℕ) (hs : s < 4) (P : Fin 8 → FVec F S128x512 .bf16) (j : Fin 8) : View.Piece (Elt F) S512x4096 .bf16 :=
  ⟨Rect.unit (s := S512x4096) ![128 * s, 512 * j.val] S128x512.size (inbO s hs j.val j.isLt), P j⟩

theorem mem_pcs (s : ℕ) (hs : s < 4) (P : Fin 8 → FVec F S128x512 .bf16) (p : View.Piece (Elt F) S512x4096 .bf16) :
    p ∈ pcs s hs P ↔ ∃ j, p = pc s hs P j := by
  have e : pcs s hs P = [pc s hs P 7, pc s hs P 6, pc s hs P 5, pc s hs P 4, pc s hs P 3, pc s hs P 2, pc s hs P 1, pc s hs P 0] := rfl
  rw [e]
  simp only [List.mem_cons, List.not_mem_nil, or_false]
  constructor
  · rintro (h | h | h | h | h | h | h | h) <;> exact ⟨_, h⟩
  · rintro ⟨j, h⟩
    fin_cases j <;> simp only [h] <;> tauto

theorem mem_pc (s : ℕ) (hs : s < 4) (P : Fin 8 → FVec F S128x512 .bf16) (j : Fin 8) (y : S512x4096.Idx) :
    y ∈ (pc s hs P j).1.set ↔ (128 * s ≤ (y 0).val ∧ (y 0).val < 128 * s + 128)
      ∧ (512 * j.val ≤ (y 1).val ∧ (y 1).val < 512 * j.val + 512) := by
  refine (pc s hs P j).1.mem_set.trans ?_
  constructor
  · intro h
    obtain ⟨a, ha, ea⟩ := h 0
    obtain ⟨b, hb, eb⟩ := h 1
    change a < 128 at ha
    change b < 512 at hb
    change (y 0).val = 128 * s + 1 * a at ea
    change (y 1).val = 512 * j.val + 1 * b at eb
    omega
  · rintro ⟨⟨h1, h2⟩, h3, h4⟩ a
    match a with
    | ⟨0, _⟩ =>
      refine ⟨(y 0).val - 128 * s, ?_, ?_⟩
      · show (y 0).val - 128 * s < 128; omega
      · show (y 0).val = 128 * s + 1 * ((y 0).val - 128 * s); omega
    | ⟨1, _⟩ =>
      refine ⟨(y 1).val - 512 * j.val, ?_, ?_⟩
      · show (y 1).val - 512 * j.val < 512; omega
      · show (y 1).val = 512 * j.val + 1 * ((y 1).val - 512 * j.val); omega

/-- What the eight stores leave: their values in the sub-block's rows, the old contents in the others. -/
theorem read_pcs (s : ℕ) (hs : s < 4) (P : Fin 8 → FVec F S128x512 .bf16) (G : Fin 512 → Fin 4096 → F .bf16)
    (h : ∀ (j : Fin 8) (r : Fin 128) (q : Fin 512), P j (ix2 r q) = G ⟨128 * s + r.val, row_lt hs r⟩ ⟨512 * j.val + q.val, col_lt j q⟩)
    (r : Fin 512) (c : Fin 4096) :
    v9.read (Elt F) (v9.writes (Elt F) g (pcs s hs P)) (ix2 r c)
      = if 128 * s ≤ r.val ∧ r.val < 128 * s + 128 then G r c else v9.read (Elt F) g (ix2 r c) := by
  split
  · rename_i hr
    have hc := c.isLt
    refine View.read_writes_apply_of_pieces v9 g (fun y => G (y 0) (y 1)) _ (fun p hp => ?_) (ix2 r c) ?_
    · obtain ⟨j, rfl⟩ := (mem_pcs s hs P p).1 hp
      intro x
      have hx : x = ix2 (n0 := 128) (n1 := 512) (x 0) (x 1) := eq_ix2 x
      rw [hx]
      refine (h j (x 0) (x 1)).trans ?_
      congr 1
      · exact Fin.ext (by show _ = 128 * s + 1 * (x 0).val; rw [Nat.one_mul])
      · exact Fin.ext (by show _ = 512 * j.val + 1 * (x 1).val; rw [Nat.one_mul])
    · have hj : c.val / 512 < 8 := by omega
      refine ⟨pc s hs P ⟨c.val / 512, hj⟩, (mem_pcs s hs P _).2 ⟨_, rfl⟩, (mem_pc s hs P _ _).2 ⟨hr, ?_⟩⟩
      show 512 * (c.val / 512) ≤ c.val ∧ c.val < 512 * (c.val / 512) + 512
      omega
  · rename_i hr
    refine View.read_writes_apply_of_forall_not_mem v9 g (ix2 r c) _ fun p hp hm => ?_
    obtain ⟨j, rfl⟩ := (mem_pcs s hs P p).1 hp
    exact hr ((mem_pc s hs P j _).1 hm).1

/-! ## The contents a sub-block leaves -/

section
variable (s : ℕ) (hs : s < 4) (tl lo hi : BitVec 32)

/-- After the first guard. -/
def out1 : v9.ty.Contents (Elt F) :=
  if hc : covW (row0 s tl) lo hi = 1#1 then
    v9.writes (Elt F) g (pcs s hs fun j => covV (xL v5 f5 s hs) (wL v7 f7 j) (xsL v6 f6 s hs) (wsL v8 f8 j))
  else g
/-- After the second. -/
def out2 : v9.ty.Contents (Elt F) :=
  if hc : zeroW (row0 s tl) lo hi = 1#1 then
    v9.writes (Elt F) (out1 v5 v6 v7 v8 v9 f5 f6 f7 f8 g s hs tl lo hi)
      (pcs s hs fun j => zeroV (row0 s tl) lo hi (xL v5 f5 s hs) (wL v7 f7 j) (xsL v6 f6 s hs) (wsL v8 f8 j))
  else out1 v5 v6 v7 v8 v9 f5 f6 f7 f8 g s hs tl lo hi
/-- After the third: what the sub-block leaves of contents `g`. -/
def blockOut (g : v9.ty.Contents (Elt F)) : v9.ty.Contents (Elt F) :=
  if hc : keepW (row0 s tl) lo hi = 1#1 then
    v9.writes (Elt F) (out2 v5 v6 v7 v8 v9 f5 f6 f7 f8 g s hs tl lo hi)
      (pcs s hs fun j => keepV (row0 s tl) lo hi (oL v9 (out2 v5 v6 v7 v8 v9 f5 f6 f7 f8 g s hs tl lo hi) s hs j)
        (xL v5 f5 s hs) (wL v7 f7 j) (xsL v6 f6 s hs) (wsL v8 f8 j))
  else out2 v5 v6 v7 v8 v9 f5 f6 f7 f8 g s hs tl lo hi

/-- How a run's contents are seen to be these: guard by guard, store by store. -/
theorem eq_blockOut {c1 c2 c3 : BitVec 1} {p0 p1 p2 p3 p4 p5 p6 p7 q0 q1 q2 q3 q4 q5 q6 q7 r0 r1 r2 r3 r4 r5 r6 r7 : FVec F S128x512 .bf16}
    {g1 g2 g3 : v9.ty.Contents (Elt F)}
    (hg3 : g3 = if hc : c3 = 1#1 then v9.writes (Elt F) g2 (pcsL s hs r0 r1 r2 r3 r4 r5 r6 r7) else g2)
    (hg2 : g2 = if hc : c2 = 1#1 then v9.writes (Elt F) g1 (pcsL s hs q0 q1 q2 q3 q4 q5 q6 q7) else g1)
    (hg1 : g1 = if hc : c1 = 1#1 then v9.writes (Elt F) g (pcsL s hs p0 p1 p2 p3 p4 p5 p6 p7) else g)
    (hc1 : c1 = covW (row0 s tl) lo hi) (hc2 : c2 = zeroW (row0 s tl) lo hi) (hc3 : c3 = keepW (row0 s tl) lo hi)
    (h1 : ∀ j, fam p0 p1 p2 p3 p4 p5 p6 p7 j = covV (xL v5 f5 s hs) (wL v7 f7 j) (xsL v6 f6 s hs) (wsL v8 f8 j))
    (h2 : ∀ j, fam q0 q1 q2 q3 q4 q5 q6 q7 j = zeroV (row0 s tl) lo hi (xL v5 f5 s hs) (wL v7 f7 j) (xsL v6 f6 s hs) (wsL v8 f8 j))
    (h3 : ∀ j, fam r0 r1 r2 r3 r4 r5 r6 r7 j = keepV (row0 s tl) lo hi (oL v9 g2 s hs j)
      (xL v5 f5 s hs) (wL v7 f7 j) (xsL v6 f6 s hs) (wsL v8 f8 j)) :
    g3 = blockOut v5 v6 v7 v8 v9 f5 f6 f7 f8 s hs tl lo hi g := by
  subst hc1 hc2 hc3
  rw [pcsL_eq, funext h1] at hg1
  rw [pcsL_eq, funext h2] at hg2
  rw [pcsL_eq, funext h3] at hg3
  have e1 : g1 = out1 v5 v6 v7 v8 v9 f5 f6 f7 f8 g s hs tl lo hi := hg1
  rw [e1] at hg2
  have e2 : g2 = out2 v5 v6 v7 v8 v9 f5 f6 f7 f8 g s hs tl lo hi := hg2
  rw [e2] at hg3
  exact hg3
end

/-! ## The sub-block -/

/-- One result: the row's products with the column, scaled by row and by column. -/
def scaledAt (x5 : Vec Ideal S512x1536 .fp8e4m3) (x6 : Vec Ideal S512x1 .f32) (x7 : Vec Ideal S1x1536x4096 .fp8e4m3)
    (x8 : Vec Ideal S1x1x4096 .f32) (r : Fin 512) (c : Fin 4096) : EReal :=
  (∑ k : Fin 1536, x5 (ix2 r k) * x7 (ix3 0 k c)) * x6 (ix2 r 0) * x8 (ix3 0 0 c)

/-- What sub-block `s` of tile `tn` leaves, its expert's rows `[ln, hn)`: those rows' results, and the rows before them
    (all rows, where the work item is dead) as they were. -/
def BlockPost (s tn ln hn : ℕ) (S : Fin 512 → Fin 4096 → EReal) (old new : Vec Ideal S512x4096 .bf16) : Prop :=
  ∀ (r : Fin 512) (c : Fin 4096),
    (¬(128 * s ≤ r.val ∧ r.val < 128 * s + 128) → new (ix2 r c) = old (ix2 r c))
    ∧ ((128 * s ≤ r.val ∧ r.val < 128 * s + 128) →
      (ln ≤ tn * 512 + r.val ∧ tn * 512 + r.val < hn → new (ix2 r c) = S r c)
      ∧ (tn * 512 + r.val < ln ∨ hn = 0 → new (ix2 r c) = old (ix2 r c)))

section
variable (e5 : v5.ty.Contents (Elt Ideal)) (e6 : v6.ty.Contents (Elt Ideal)) (e7 : v7.ty.Contents (Elt Ideal))
  (e8 : v8.ty.Contents (Elt Ideal)) (e9 : v9.ty.Contents (Elt Ideal)) (s : ℕ) (hs : s < 4)

theorem scaledV_loads (j : Fin 8) (r : Fin 128) (q : Fin 512) :
    scaledV (xL v5 e5 s hs) (wL v7 e7 j) (xsL v6 e6 s hs) (wsL v8 e8 j) (ix2 r q)
      = scaledAt (v5.read (Elt Ideal) e5) (v6.read (Elt Ideal) e6) (v7.read (Elt Ideal) e7) (v8.read (Elt Ideal) e8)
        ⟨128 * s + r.val, row_lt hs r⟩ ⟨512 * j.val + q.val, col_lt j q⟩ := by
  rw [scaledV_apply, xsL_apply, wsL_apply]
  simp only [xL_apply, wL_apply]
  rfl

theorem block_post (tn ln hn : ℕ) (htn : tn < 24) (hln : ln ≤ 12288) (hhn : hn ≤ 12288)
    (c1 c2 c3 : BitVec 1) (P1 P2 P3 : Fin 8 → FVec Ideal S128x512 .bf16) (g1 g2 g3 : v9.ty.Contents (Elt Ideal))
    (hc1 : c1 = covW (row0 s (BitVec.ofNat 32 tn)) (BitVec.ofNat 32 ln) (BitVec.ofNat 32 hn))
    (hc2 : c2 = zeroW (row0 s (BitVec.ofNat 32 tn)) (BitVec.ofNat 32 ln) (BitVec.ofNat 32 hn))
    (hc3 : c3 = keepW (row0 s (BitVec.ofNat 32 tn)) (BitVec.ofNat 32 ln) (BitVec.ofNat 32 hn))
    (hg1 : g1 = if hc : c1 = 1#1 then v9.writes (Elt Ideal) e9 (pcs s hs P1) else e9)
    (hg2 : g2 = if hc : c2 = 1#1 then v9.writes (Elt Ideal) g1 (pcs s hs P2) else g1)
    (hg3 : g3 = if hc : c3 = 1#1 then v9.writes (Elt Ideal) g2 (pcs s hs P3) else g2)
    (h1 : ∀ j, P1 j = covV (xL v5 e5 s hs) (wL v7 e7 j) (xsL v6 e6 s hs) (wsL v8 e8 j))
    (h2 : ∀ j, P2 j = zeroV (row0 s (BitVec.ofNat 32 tn)) (BitVec.ofNat 32 ln) (BitVec.ofNat 32 hn)
      (xL v5 e5 s hs) (wL v7 e7 j) (xsL v6 e6 s hs) (wsL v8 e8 j))
    (h3 : ∀ j, P3 j = keepV (row0 s (BitVec.ofNat 32 tn)) (BitVec.ofNat 32 ln) (BitVec.ofNat 32 hn) (oL v9 g2 s hs j)
      (xL v5 e5 s hs) (wL v7 e7 j) (xsL v6 e6 s hs) (wsL v8 e8 j)) :
    BlockPost s tn ln hn (scaledAt (v5.read (Elt Ideal) e5) (v6.read (Elt Ideal) e6) (v7.read (Elt Ideal) e7) (v8.read (Elt Ideal) e8))
      (v9.read (Elt Ideal) e9) (v9.read (Elt Ideal) g3) := by
  have hb : tn * 512 + 128 * s ≤ 100000 := by omega
  have hl : ln ≤ 100000 := by omega
  have hh : hn ≤ 100000 := by omega
  rw [row0_ofNat] at hc1 hc2 hc3
  simp only [row0_ofNat] at h2 h3
  have i1 := covW_iff _ _ _ hb hl hh
  have i2 := zeroW_iff _ _ _ hb hl hh
  have i3 := keepW_iff _ _ _ hb hl hh
  rw [← hc1] at i1
  rw [← hc2] at i2
  rw [← hc3] at i3
  generalize hS : scaledAt (v5.read (Elt Ideal) e5) (v6.read (Elt Ideal) e6) (v7.read (Elt Ideal) e7) (v8.read (Elt Ideal) e8) = S
  have hsc := scaledV_loads v5 v6 v7 v8 e5 e6 e7 e8 s hs
  rw [hS] at hsc
  intro r c
  by_cases k3 : c3 = 1#1
  · have n1 : ¬ c1 = 1#1 := fun k1 => by have := i1.1 k1; have := i3.1 k3; omega
    have n2 : ¬ c2 = 1#1 := fun k2 => by have := i2.1 k2; have := i3.1 k3; omega
    rw [dif_neg n1] at hg1
    rw [dif_neg n2, hg1] at hg2
    rw [dif_pos k3] at hg3
    have hk := i3.1 k3
    have hr := read_pcs v9 g2 s hs P3
        (fun r c => if ln ≤ tn * 512 + r.val ∧ tn * 512 + r.val < hn then S r c else v9.read (Elt Ideal) e9 (ix2 r c))
        (fun j r q => by
          rw [h3 j, keepV, whV_apply, hsc]
          have hm := mineV_iff _ _ _ hb hl hh r
          have ho : (extf .f32 (shapeCast S128x512 (oL v9 g2 s hs j) shapeCasts_S128x512_S128x512) bitsLt_bf16_f32 : FVec Ideal S128x512 .f32) (ix2 r q)
              = v9.read (Elt Ideal) e9 (ix2 ⟨128 * s + r.val, row_lt hs r⟩ ⟨512 * j.val + q.val, col_lt j q⟩) := by
            rw [← hg2, ← oL_apply v9 g2 s hs j r q, shapeCast_same]; rfl
          rw [ho]
          refine if_congr ?_ rfl rfl
          rw [hm]
          show _ ↔ ln ≤ tn * 512 + (128 * s + r.val) ∧ tn * 512 + (128 * s + r.val) < hn
          omega) r c
    rw [hg3, hr]
    constructor
    · intro hn'; rw [if_neg hn', hg2]
    · intro hin
      rw [if_pos hin]
      exact ⟨fun h => if_pos h, fun h => if_neg (by omega)⟩
  · rw [dif_neg k3] at hg3
    have m3 : ¬ ((ln < tn * 512 + 128 * s + 128 ∧ tn * 512 + 128 * s < hn) ∧ tn * 512 + 128 * s < ln) := fun h => k3 (i3.2 h)
    by_cases k2 : c2 = 1#1
    · have n1 : ¬ c1 = 1#1 := fun k1 => by have := i1.1 k1; have := i2.1 k2; omega
      rw [dif_neg n1] at hg1
      rw [dif_pos k2, hg1] at hg2
      have hk := i2.1 k2
      have hr := read_pcs v9 e9 s hs P2
          (fun r c => if ln ≤ tn * 512 + r.val ∧ tn * 512 + r.val < hn then S r c else 0)
          (fun j r q => by
            rw [h2 j, zeroV, whV_apply, hsc]
            have hm := mineV_iff _ _ _ hb hl hh r
            have ho : (broadcast S128x512 (Scalar.ofBits .f32 0x00000000#32 : Ideal .f32) : FVec Ideal S128x512 .f32) (ix2 r q) = 0 :=
              Ideal.ofBits_zero_f32
            rw [ho]
            refine if_congr ?_ rfl rfl
            rw [hm]
            show _ ↔ ln ≤ tn * 512 + (128 * s + r.val) ∧ tn * 512 + (128 * s + r.val) < hn
            omega) r c
      rw [hg3, hg2, hr]
      constructor
      · intro hn'; rw [if_neg hn']
      · intro hin
        rw [if_pos hin]
        exact ⟨fun h => if_pos h, fun h => by omega⟩
    · rw [dif_neg k2] at hg2
      have m2 := mt i2.2 k2
      by_cases k1 : c1 = 1#1
      · rw [dif_pos k1] at hg1
        have hk := i1.1 k1
        have hr := read_pcs v9 e9 s hs P1 S (fun j r q => by rw [h1 j]; exact hsc j r q) r c
        rw [hg3, hg2, hg1, hr]
        constructor
        · intro hn'; rw [if_neg hn']
        · intro hin
          rw [if_pos hin]
          exact ⟨fun h => rfl, fun h => by omega⟩
      · rw [dif_neg k1] at hg1
        have m1 := mt i1.2 k1
        rw [hg3, hg2, hg1]
        refine ⟨fun _ => rfl, fun hin => ⟨fun h => ?_, fun _ => rfl⟩⟩
        exfalso
        omega
/-- `block_post` of the contents a sub-block leaves. -/
theorem blockOut_post {tn ln hn : ℕ} (htn : tn < 24) (hln : ln ≤ 12288) (hhn : hn ≤ 12288) {tl lo hi : BitVec 32}
    (et : tl = BitVec.ofNat 32 tn) (el : lo = BitVec.ofNat 32 ln) (eh : hi = BitVec.ofNat 32 hn) :
    BlockPost s tn ln hn (scaledAt (v5.read (Elt Ideal) e5) (v6.read (Elt Ideal) e6) (v7.read (Elt Ideal) e7) (v8.read (Elt Ideal) e8))
      (v9.read (Elt Ideal) e9) (v9.read (Elt Ideal) (blockOut v5 v6 v7 v8 v9 e5 e6 e7 e8 s hs tl lo hi e9)) := by
  subst et el eh
  exact block_post v5 v6 v7 v8 v9 e5 e6 e7 e8 e9 s hs tn ln hn htn hln hhn _ _ _ _ _ _ _ _ _ rfl rfl rfl rfl rfl rfl
    (fun _ => rfl) (fun _ => rfl) (fun _ => rfl)
end

/-- What the whole body leaves in a tile at one work item: the expert's rows' results, the rows before them as they were
    (all rows, where the item is dead). -/
def StepRel (tn ln hn : ℕ) (S : Fin 512 → Fin 4096 → EReal) (Y X : Vec Ideal S512x4096 .bf16) : Prop :=
  ∀ (r : Fin 512) (c : Fin 4096), (ln ≤ tn * 512 + r.val ∧ tn * 512 + r.val < hn → X (ix2 r c) = S r c)
    ∧ (tn * 512 + r.val < ln ∨ hn = 0 → X (ix2 r c) = Y (ix2 r c))

theorem step_of_blocks {tn ln hn : ℕ} {S : Fin 512 → Fin 4096 → EReal} {Y X0 X1 X2 X3 : Vec Ideal S512x4096 .bf16}
    (h0 : BlockPost 0 tn ln hn S Y X0) (h1 : BlockPost 1 tn ln hn S X0 X1) (h2 : BlockPost 2 tn ln hn S X1 X2)
    (h3 : BlockPost 3 tn ln hn S X2 X3) : StepRel tn ln hn S Y X3 := by
  intro r c
  have hr := r.isLt
  obtain ⟨a0, b0⟩ := h0 r c
  obtain ⟨a1, b1⟩ := h1 r c
  obtain ⟨a2, b2⟩ := h2 r c
  obtain ⟨a3, b3⟩ := h3 r c
  by_cases k3 : 384 ≤ r.val
  · rw [a2 (by omega), a1 (by omega), a0 (by omega)] at b3
    exact b3 (by omega)
  rw [← a3 (by omega)] at b2 a2
  by_cases k2 : 256 ≤ r.val
  · rw [a1 (by omega), a0 (by omega)] at b2
    exact b2 (by omega)
  rw [← a2 (by omega)] at b1 a1
  by_cases k1 : 128 ≤ r.val
  · rw [a0 (by omega)] at b1
    exact b1 (by omega)
  rw [← a1 (by omega)] at b0
  exact b0 (by omega)

end Cert.KernelIdeal.Hand
end
-- ==== Proof.BodyVal.lean ====
/- One grid point's body, run once over the extended reals: what it leaves in the tile, row by row. -/
module

public import proofs.«01_k».proof.Proof.Gen.KernelIdeal.Launch
public import proofs.«01_k».proof.Proof.Gen.KernelIdeal.Skeleton
public import proofs.«01_k».proof.Proof.Block
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word a table holds for a grid point. -/
abbrev tw (v : View sig .tc .smem S39 .i32) (f : v.ty.Contents (Elt F)) (i : grid0.Coords) : BitVec 32 :=
  View.readAt (Elt F) v (Rect.unit (s := S39) (k0_off1 i) S1.size (k0_off1_inb i)).toLoadRect f (Shape.Idx.first (s := S1) (by decide))

/-- The body's result: the four sub-blocks one after the other, on buffers that read as the inputs. -/
def BodyRel (v5 : View sig .tc .vmem S512x1536 .fp8e4m3) (v6 : View sig .tc .vmem S512x1 .f32)
    (v7 : View sig .tc .vmem S1x1536x4096 .fp8e4m3) (v8 : View sig .tc .vmem S1x1x4096 .f32) (v9 : View sig .tc .vmem S512x4096 .bf16)
    (x5 : Vec F S512x1536 .fp8e4m3) (x6 : Vec F S512x1 .f32) (x7 : Vec F S1x1536x4096 .fp8e4m3) (x8 : Vec F S1x1x4096 .f32)
    (tl lo hi : BitVec 32) (x9 d : Vec F S512x4096 .bf16) : Prop :=
  ∃ (f5 : v5.ty.Contents (Elt F)) (f6 : v6.ty.Contents (Elt F)) (f7 : v7.ty.Contents (Elt F)) (f8 : v8.ty.Contents (Elt F)) (f9 g0 g1 g2 g3 : v9.ty.Contents (Elt F)),
    v5.read (Elt F) f5 = x5 ∧ v6.read (Elt F) f6 = x6 ∧ v7.read (Elt F) f7 = x7 ∧ v8.read (Elt F) f8 = x8 ∧ v9.read (Elt F) f9 = x9
    ∧ g0 = blockOut v5 v6 v7 v8 v9 f5 f6 f7 f8 0 (by decide) tl lo hi f9
    ∧ g1 = blockOut v5 v6 v7 v8 v9 f5 f6 f7 f8 1 (by decide) tl lo hi g0
    ∧ g2 = blockOut v5 v6 v7 v8 v9 f5 f6 f7 f8 2 (by decide) tl lo hi g1
    ∧ g3 = blockOut v5 v6 v7 v8 v9 f5 f6 f7 f8 3 (by decide) tl lo hi g2
    ∧ v9.read (Elt F) g3 = d

/-- Contents held, as contents with a property. -/
theorem hide' (c : Dev nD) {sp : Space} {S : Shape} {e : EltTy} (M : Memref sig .tc sp S e) (P : M.view.ty.Contents (Elt F) → Prop)
    {g : M.view.ty.Contents (Elt F)} (h : P g) :
    (M.view.loc (c : Thread nD τ) ↦[M.view.set]{fullShare} g)
      ⊢ (iprop(∃ g : M.view.ty.Contents (Elt F), ⌜P g⌝ ∗ (M.view.loc (c : Thread nD τ) ↦[M.view.set]{fullShare} g)) : sProp 𝕄) := by
  iintro H
  iexists g
  isplitr
  · ipureintro; exact h
  · iexact H

set_option maxHeartbeats 4000000 in
theorem bodyVal (c : Dev nD) (i : grid0.Coords) (arg1 : Memref sig .tc .smem S39 .i32) (harg1 : arg1.IsWhole) (arg2 : Memref sig .tc .smem S39 .i32) (harg2 : arg2.IsWhole) (arg3 : Memref sig .tc .smem S39 .i32) (harg3 : arg3.IsWhole) (arg4 : Memref sig .tc .smem S39 .i32) (harg4 : arg4.IsWhole) (arg5 : Memref sig .tc .vmem S512x1536 .fp8e4m3) (harg5 : arg5.IsWhole) (arg6 : Memref sig .tc .vmem S512x1 .f32) (harg6 : arg6.IsWhole) (arg7 : Memref sig .tc .vmem S1x1536x4096 .fp8e4m3) (harg7 : arg7.IsWhole) (arg8 : Memref sig .tc .vmem S1x1x4096 .f32) (harg8 : arg8.IsWhole) (arg9 : Memref sig .tc .vmem S512x4096 .bf16) (harg9 : arg9.IsWhole)
    (p1 p3 p4 : PosShare TreeShare) (f1 : Buf (Elt F) (arg1.view.loc (c : Thread nD τ))) (f3 : Buf (Elt F) (arg3.view.loc (c : Thread nD τ))) (f4 : Buf (Elt F) (arg4.view.loc (c : Thread nD τ)))
    (x5 : Vec F S512x1536 .fp8e4m3) (x6 : Vec F S512x1 .f32) (x7 : Vec F S1x1536x4096 .fp8e4m3) (x8 : Vec F S1x1x4096 .f32) (x9 : Vec F S512x4096 .bf16)
    (E : Set ℕ) (K : PUnit → sProp 𝕄) :
        iprop((arg1.view.loc (c : Thread nD τ) ↦{p1} f1) ∗ (arg3.view.loc (c : Thread nD τ) ↦{p3} f3) ∗ (arg4.view.loc (c : Thread nD τ) ↦{p4} f4) ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (iprop((arg1.view.loc (c : Thread nD τ) ↦{p1} f1) ∗ (arg3.view.loc (c : Thread nD τ) ↦{p3} f3) ∗ (arg4.view.loc (c : Thread nD τ) ↦{p4} f4) ∗ owns (c : Thread nD τ) arg5 fullShare x5 ∗ owns (c : Thread nD τ) arg6 fullShare x6 ∗ owns (c : Thread nD τ) arg7 fullShare x7 ∗ owns (c : Thread nD τ) arg8 fullShare x8 ∗ (∃ d, ⌜BodyRel arg5.view arg6.view arg7.view arg8.view arg9.view x5 x6 x7 x8 (tw arg1.view f1 i) (tw arg3.view f3 i) (tw arg4.view f4 i) x9 d⌝ ∗ owns (c : Thread nD τ) arg9 fullShare d)) -∗ K ⟨⟩))
          ⊢ wp frame (wpE (defs₀ (F := F)) Variants.none c none) E (cc0_grouped_fp8_matmul i arg1 harg1 arg2 harg2 arg3 harg3 arg4 harg4 arg5 harg5 arg6 harg6 arg7 harg7 arg8 harg8 arg9 harg9) K := by
  simp only [cc0_grouped_fp8_matmul_eq_skeleton]; unfold cc0_grouped_fp8_matmul_skel
  unfold owns
  iintro ⟨H1, H3, H4, ⟨%f5, %hf5, H5⟩, ⟨%f6, %hf6, H6⟩, ⟨%f7, %hf7, H7⟩, ⟨%f8, %hf8, H8⟩, ⟨%f9, %hf9, H9⟩, Hk⟩
  set_option sl_exec.stopBefore "k0_cond4" in sl_exec
  ihave ⟨%g0, %hg0, H9⟩ := (hide' (F := F) c arg9
      (fun g => g = blockOut arg5.view arg6.view arg7.view arg8.view arg9.view f5 f6 f7 f8 0 (by decide)
        (tw arg1.view f1 i) (tw arg3.view f3 i) (tw arg4.view f4 i) f9) ?h0) $$ H9
  case h0 =>
    refine eq_blockOut arg5.view arg6.view arg7.view arg8.view arg9.view f5 f6 f7 f8 f9 0 (by decide)
      (tw arg1.view f1 i) (tw arg3.view f3 i) (tw arg4.view f4 i)
      (hg3 := rfl) (hg2 := rfl) (hg1 := rfl) (hc1 := rfl) (hc2 := rfl) (hc3 := rfl) (h1 := ?_) (h2 := ?_) (h3 := ?_)
    · exact all8 rfl rfl rfl rfl rfl rfl rfl rfl
    · exact all8 rfl rfl rfl rfl rfl rfl rfl rfl
    · exact all8 rfl rfl rfl rfl rfl rfl rfl rfl
  set_option sl_exec.stopBefore "k0_cond7" in sl_exec
  ihave ⟨%g1, %hg1, H9⟩ := (hide' (F := F) c arg9
      (fun g => g = blockOut arg5.view arg6.view arg7.view arg8.view arg9.view f5 f6 f7 f8 1 (by decide)
        (tw arg1.view f1 i) (tw arg3.view f3 i) (tw arg4.view f4 i) g0) ?h1) $$ H9
  case h1 =>
    refine eq_blockOut arg5.view arg6.view arg7.view arg8.view arg9.view f5 f6 f7 f8 g0 1 (by decide)
      (tw arg1.view f1 i) (tw arg3.view f3 i) (tw arg4.view f4 i)
      (hg3 := rfl) (hg2 := rfl) (hg1 := rfl) (hc1 := rfl) (hc2 := rfl) (hc3 := rfl) (h1 := ?_) (h2 := ?_) (h3 := ?_)
    · exact all8 rfl rfl rfl rfl rfl rfl rfl rfl
    · exact all8 rfl rfl rfl rfl rfl rfl rfl rfl
    · exact all8 rfl rfl rfl rfl rfl rfl rfl rfl
  set_option sl_exec.stopBefore "k0_cond10" in sl_exec
  ihave ⟨%g2, %hg2, H9⟩ := (hide' (F := F) c arg9
      (fun g => g = blockOut arg5.view arg6.view arg7.view arg8.view arg9.view f5 f6 f7 f8 2 (by decide)
        (tw arg1.view f1 i) (tw arg3.view f3 i) (tw arg4.view f4 i) g1) ?h2) $$ H9
  case h2 =>
    refine eq_blockOut arg5.view arg6.view arg7.view arg8.view arg9.view f5 f6 f7 f8 g1 2 (by decide)
      (tw arg1.view f1 i) (tw arg3.view f3 i) (tw arg4.view f4 i)
      (hg3 := rfl) (hg2 := rfl) (hg1 := rfl) (hc1 := rfl) (hc2 := rfl) (hc3 := rfl) (h1 := ?_) (h2 := ?_) (h3 := ?_)
    · exact all8 rfl rfl rfl rfl rfl rfl rfl rfl
    · exact all8 rfl rfl rfl rfl rfl rfl rfl rfl
    · exact all8 rfl rfl rfl rfl rfl rfl rfl rfl
  sl_exec
  ihave ⟨%g3, %hg3, H9⟩ := (hide' (F := F) c arg9
      (fun g => g = blockOut arg5.view arg6.view arg7.view arg8.view arg9.view f5 f6 f7 f8 3 (by decide)
        (tw arg1.view f1 i) (tw arg3.view f3 i) (tw arg4.view f4 i) g2) ?h3) $$ H9
  case h3 =>
    refine eq_blockOut arg5.view arg6.view arg7.view arg8.view arg9.view f5 f6 f7 f8 g2 3 (by decide)
      (tw arg1.view f1 i) (tw arg3.view f3 i) (tw arg4.view f4 i)
      (hg3 := rfl) (hg2 := rfl) (hg1 := rfl) (hc1 := rfl) (hc2 := rfl) (hc3 := rfl) (h1 := ?_) (h2 := ?_) (h3 := ?_)
    · exact all8 rfl rfl rfl rfl rfl rfl rfl rfl
    · exact all8 rfl rfl rfl rfl rfl rfl rfl rfl
    · exact all8 rfl rfl rfl rfl rfl rfl rfl rfl
  sl_step
  iapply Hk
  isplitl [H1]; · iexact H1
  isplitl [H3]; · iexact H3
  isplitl [H4]; · iexact H4
  isplitl [H5]; · iexists _; isplitr; swap; · iexact H5
                  ipureintro; exact hf5
  isplitl [H6]; · iexists _; isplitr; swap; · iexact H6
                  ipureintro; exact hf6
  isplitl [H7]; · iexists _; isplitr; swap; · iexact H7
                  ipureintro; exact hf7
  isplitl [H8]; · iexists _; isplitr; swap; · iexact H8
                  ipureintro; exact hf8
  iexists arg9.view.read (Elt F) g3
  isplitr
  · ipureintro
    exact ⟨f5, f6, f7, f8, f9, g0, g1, g2, g3, hf5, hf6, hf7, hf8, hf9, hg0, hg1, hg2, hg3, rfl⟩
  iexists g3
  isplitr
  · ipureintro; rfl
  · iexact H9

end Cert.KernelIdeal.Hand
end
-- ==== Proof.Walk.lean ====
/- The work list in natural numbers: which expert, which row tile and which rows each step works on when the group sizes
   add up to the number of rows, and that every row is written by one step and kept by the later ones on its tile. -/
module

public import Idealize.ShloMosaic.Lib.WordCmp
public import Mathlib.Data.Nat.Count

@[expose] public section

namespace Cert.KernelIdeal.Hand.Walk

/-! ## Running sums -/

/-- The sum of the first `n` of a family. -/
def cs (f : ℕ → ℕ) (n : ℕ) : ℕ := ((List.range n).map f).sum

theorem cs_zero (f : ℕ → ℕ) : cs f 0 = 0 := rfl

theorem cs_succ (f : ℕ → ℕ) (n : ℕ) : cs f (n + 1) = cs f n + f n := by
  unfold cs
  rw [List.range_succ, List.map_append, List.sum_append, List.map_singleton, List.sum_singleton]

theorem cs_mono (f : ℕ → ℕ) {a b : ℕ} (h : a ≤ b) : cs f a ≤ cs f b := by
  induction b, h using Nat.le_induction with
  | base => exact le_refl _
  | succ n _ ih => rw [cs_succ]; omega

/-- The place whose stretch of the running sum holds `r`: the number of stretches that end at or before `r`. -/
def own (f : ℕ → ℕ) (r : ℕ) : ℕ := Nat.count (fun e => cs f (e + 1) ≤ r) 16

/-- A place whose stretch holds `r` is that place. -/
theorem own_eq (f : ℕ → ℕ) {r x : ℕ} (hx : x < 16) (h1 : cs f x ≤ r) (h2 : r < cs f (x + 1)) : own f r = x := by
  have key : ∀ n, n ≤ 16 → Nat.count (fun e => cs f (e + 1) ≤ r) n = min n x := by
    intro n
    induction n with
    | zero => intro _; simp
    | succ n ih =>
      intro hn
      rw [Nat.count_succ, ih (by omega)]
      by_cases h : n < x
      · have := cs_mono f (show n + 1 ≤ x from h)
        rw [if_pos (by omega)]; omega
      · have := cs_mono f (show x + 1 ≤ n + 1 by omega)
        rw [if_neg (by omega)]; omega
  unfold own
  rw [key 16 (le_refl _)]; omega

/-- Some place's stretch holds `r`. -/
theorem exists_own (f : ℕ → ℕ) {r : ℕ} : ∀ {n : ℕ}, r < cs f n → ∃ x < n, cs f x ≤ r ∧ r < cs f (x + 1)
  | 0, h => by rw [cs_zero] at h; omega
  | n + 1, h => by
    by_cases h' : r < cs f n
    · obtain ⟨x, hx, e⟩ := exists_own f h'
      exact ⟨x, by omega, e⟩
    · exact ⟨n, by omega, by omega, h⟩

theorem own_spec (f : ℕ → ℕ) {r : ℕ} (h : r < cs f 16) : own f r < 16 ∧ cs f (own f r) ≤ r ∧ r < cs f (own f r + 1) := by
  obtain ⟨x, hx, h1, h2⟩ := exists_own f h
  rw [own_eq f hx h1 h2]
  exact ⟨hx, h1, h2⟩

/-! ## The work list -/

section
variable (f : ℕ → ℕ)

/-- How many row tiles expert `e` touches. -/
def T (e : ℕ) : ℕ := if 0 < f e then (cs f (e + 1) - 1) / 512 - cs f e / 512 + 1 else 0
/-- How many work items there are. -/
def total : ℕ := cs (T f) 16
/-- Step `t`'s work item, held at the last one. -/
def cl (t : ℕ) : ℕ := min t (total f - 1)
/-- Step `t`'s expert. -/
def ex (t : ℕ) : ℕ := own (T f) (cl f t)
/-- Step `t`'s row tile. -/
def tile (t : ℕ) : ℕ := cs f (ex f t) / 512 + (cl f t - cs (T f) (ex f t))
/-- The rows step `t` may write: from `lo`, -/
def lo (t : ℕ) : ℕ := if t < total f then cs f (ex f t) else 0
/-- and below `hi`. -/
def hi (t : ℕ) : ℕ := if t < total f then cs f (ex f t + 1) else 0
end

section
variable {f : ℕ → ℕ} (hf : cs f 16 = 12288)

/-- The items before expert `e` against the rows before it. -/
theorem items_le (f : ℕ → ℕ) (e : ℕ) : (cs f e = 0 → cs (T f) e = 0) ∧ (0 < cs f e → cs (T f) e ≤ (cs f e - 1) / 512 + e) := by
  induction e with
  | zero => exact ⟨fun _ => rfl, fun h => by rw [cs_zero] at h; omega⟩
  | succ e ih =>
    obtain ⟨i1, i2⟩ := ih
    have hT : T f e = if 0 < f e then (cs f (e + 1) - 1) / 512 - cs f e / 512 + 1 else 0 := rfl
    have c1 := cs_succ f e
    have c2 := cs_succ (T f) e
    by_cases h : 0 < f e
    · rw [if_pos h] at hT
      refine ⟨fun h0 => by omega, fun _ => ?_⟩
      by_cases h0 : cs f e = 0
      · have := i1 h0; omega
      · have := i2 (by omega); omega
    · rw [if_neg h] at hT
      refine ⟨fun h0 => ?_, fun h0 => ?_⟩
      · have := i1 (by omega); omega
      · have := i2 (by omega)
        have e1 : cs f (e + 1) = cs f e := by omega
        rw [e1]; omega

include hf

theorem total_le : total f ≤ 39 := by
  have := (items_le f 16).2 (by omega)
  unfold total; omega

theorem rows_le {e : ℕ} (he : e ≤ 16) : cs f e ≤ 12288 := hf ▸ cs_mono f he

/-- An expert with rows has items. -/
theorem T_pos {e : ℕ} (h : cs f e < cs f (e + 1)) : 0 < T f e := by
  have := cs_succ f e
  unfold T; rw [if_pos (by omega)]; omega

theorem total_pos : 0 < total f := by
  obtain ⟨x, hx, h1, h2⟩ := exists_own f (r := 0) (n := 16) (by omega)
  have p := T_pos hf (e := x) (by omega)
  have m := cs_mono (T f) (show x + 1 ≤ 16 by omega)
  have := cs_succ (T f) x
  unfold total; omega

theorem cl_lt (t : ℕ) : cl f t < total f := by
  have := total_pos hf
  unfold cl; omega

theorem ex_spec (t : ℕ) : ex f t < 16 ∧ cs (T f) (ex f t) ≤ cl f t ∧ cl f t < cs (T f) (ex f t + 1) :=
  own_spec (T f) (cl_lt hf t)

theorem ex_lt (t : ℕ) : ex f t < 16 := (ex_spec hf t).1

/-- Every step's expert has rows. -/
theorem ex_pos (t : ℕ) : 0 < f (ex f t) := by
  obtain ⟨_, h1, h2⟩ := ex_spec hf t
  by_contra h
  rw [cs_succ] at h2
  have hT : T f (ex f t) = 0 := by unfold T; rw [if_neg h]
  omega

/-- The tile lies among the expert's. -/
theorem tile_le (t : ℕ) : tile f t ≤ (cs f (ex f t + 1) - 1) / 512 := by
  obtain ⟨_, h1, h2⟩ := ex_spec hf t
  have hp := ex_pos hf t
  rw [cs_succ] at h2
  have hT : T f (ex f t) = (cs f (ex f t + 1) - 1) / 512 - cs f (ex f t) / 512 + 1 := by unfold T; rw [if_pos hp]
  have c := cs_succ f (ex f t)
  unfold tile
  omega

theorem lo_le (t : ℕ) : lo f t ≤ 12288 := by
  unfold lo
  split
  · exact rows_le hf (ex_lt hf t).le
  · exact Nat.zero_le _

theorem hi_le (t : ℕ) : hi f t ≤ 12288 := by
  unfold hi
  split
  · exact rows_le hf (ex_lt hf t)
  · exact Nat.zero_le _

theorem tile_lt (t : ℕ) : tile f t < 24 := by
  have h := tile_le hf t
  have b := rows_le hf (show ex f t + 1 ≤ 16 from ex_lt hf t)
  omega

theorem ex_mono {t t' : ℕ} (h : t ≤ t') : ex f t ≤ ex f t' := by
  obtain ⟨_, h1, h2⟩ := ex_spec hf t
  obtain ⟨_, h3, h4⟩ := ex_spec hf t'
  have hc : cl f t ≤ cl f t' := by unfold cl; omega
  by_contra hn
  have := cs_mono (T f) (show ex f t' + 1 ≤ ex f t by omega)
  omega

/-- The tiles go up. -/
theorem tile_mono {t t' : ℕ} (h : t ≤ t') : tile f t ≤ tile f t' := by
  have hc : cl f t ≤ cl f t' := by unfold cl; omega
  rcases Nat.eq_or_lt_of_le (ex_mono hf h) with e | l
  · unfold tile; rw [e]; omega
  · have a := tile_le hf t
    have b := cs_mono f (show ex f t + 1 ≤ ex f t' from l)
    have d : cs f (ex f t') / 512 ≤ tile f t' := Nat.le_add_right _ _
    omega

/-- The step that writes row `r`. -/
theorem exists_step {r : ℕ} (hr : r < 12288) : ∃ t < 39, tile f t = r / 512 ∧ ex f t = own f r ∧ lo f t ≤ r ∧ r < hi f t
    ∧ ∀ t', t < t' → tile f t' = r / 512 → r < lo f t' ∨ hi f t' = 0 := by
  obtain ⟨hx, h1, h2⟩ := own_spec f (r := r) (by omega)
  set x := own f r with hxe
  have hT : T f x = (cs f (x + 1) - 1) / 512 - cs f x / 512 + 1 := by
    have := cs_succ f x
    unfold T; rw [if_pos (by omega)]
  have c := cs_succ (T f) x
  have hm := cs_mono (T f) (show x + 1 ≤ 16 by omega)
  have ht : cs (T f) x + (r / 512 - cs f x / 512) < cs (T f) (x + 1) := by omega
  have htot : cs (T f) x + (r / 512 - cs f x / 512) < total f := by unfold total; omega
  have h39 := total_le hf
  have hcl : cl f (cs (T f) x + (r / 512 - cs f x / 512)) = cs (T f) x + (r / 512 - cs f x / 512) := by unfold cl; omega
  have hex : ex f (cs (T f) x + (r / 512 - cs f x / 512)) = x := by
    unfold ex; rw [hcl]; exact own_eq (T f) hx (by omega) ht
  refine ⟨cs (T f) x + (r / 512 - cs f x / 512), by omega, ?_, hex, ?_, ?_, ?_⟩
  · unfold tile; rw [hex, hcl]
    have : cs f x / 512 ≤ r / 512 := Nat.div_le_div_right h1
    omega
  · unfold lo; rw [if_pos htot, hex]; exact h1
  · unfold hi; rw [if_pos htot, hex]; exact h2
  · intro t' hlt htile
    by_cases hl : t' < total f
    · left
      have hmono := ex_mono hf (Nat.le_of_lt hlt)
      rw [hex] at hmono
      unfold lo; rw [if_pos hl]
      rcases Nat.eq_or_lt_of_le hmono with e | l
      · exfalso
        unfold tile at htile
        rw [← e] at htile
        have : cl f t' = t' := by unfold cl; omega
        rw [this] at htile
        have : cs f x / 512 ≤ r / 512 := Nat.div_le_div_right h1
        omega
      · exact lt_of_lt_of_le h2 (cs_mono f l)
    · right; unfold hi; rw [if_neg hl]

end

end Cert.KernelIdeal.Hand.Walk
end
-- ==== Proof.Words.lean ====
/- The four prefetched tables hold the work list of `Walk`, when the group sizes are naturals that add up to the rows. -/
module

public import proofs.«01_k».proof.Proof.Table
public import proofs.«01_k».proof.Proof.Walk
public import Idealize.ShloMosaic.Lib.PlanTiles.Rows

@[expose] public section

set_option maxRecDepth 16384

noncomputable section

namespace Cert.KernelIdeal.Hand

open Cert.KernelIdeal Cert.KernelIdeal.Gen
open Idealize.ShloMosaic Idealize.ShloMosaic.TcCoe
open Idealize.ShloMosaic.Routing Idealize.ShloMosaic.ValueIdx
open Walk Idealize.ShloMosaic.WordCmp

/-- A difference of words of naturals. -/
theorem ofNat_sub {a b : ℕ} (h : b ≤ a) (ha : a < 2 ^ 32) : BitVec.ofNat 32 a - BitVec.ofNat 32 b = BitVec.ofNat 32 (a - b) := by
  apply BitVec.eq_of_toNat_eq
  simp only [BitVec.toNat_sub, BitVec.toNat_ofNat]
  omega

/-- A table's entry at each step's expert. -/
theorem takeW_ap (x : IVec S16 32) (e : IVec S39 32) (t : Fin 39) (b : Fin 16) (hb : e (ix1 t) = BitVec.ofNat 32 b.val) :
    takeW x e (ix1 t) = x (ix1 b) := by
  have hbl := b.isLt
  unfold takeW k39
  refine gather_take1 (N := 16) (n := 39) _ rfl rfl rfl rfl x _ t b ?_ (by decide)
  refine (bcCol (n := 39) _ _ t).trans ?_
  rw [select_at, cmpi_at]
  have h0 : IntOp.cmpi .slt (e (ix1 t)) (broadcastInDim S39 ![] bcast_S_S39 (constantI S_ 32 0#32) (ix1 t)) ≠ 1#1 := by
    rw [show broadcastInDim S39 ![] bcast_S_S39 (constantI S_ 32 0#32) (ix1 t) = BitVec.ofNat 32 0 from bc0 _ _ _, hb,
      WordCmp.cmpi_slt_ofNat (by omega) (by omega), Ne, WordCmp.ofBool_decide_eq_one_iff]
    omega
  rw [show ∀ (q : BitVec 1) (u v : BitVec 32), q ≠ 1#1 → Scalar.select q u v = v from fun q u v h => if_neg h]
  · exact hb
  · exact h0

section
variable {g : IVec S16 32} {f : ℕ → ℕ} (hg : ∀ e : Fin 16, g (ix1 e) = BitVec.ofNat 32 (f e.val)) (hf : cs f 16 = 12288)
include hg

theorem endsW_ap (e : Fin 16) : endsW g (ix1 e) = BitVec.ofNat 32 (cs f (e.val + 1)) := by
  unfold endsW cumW
  exact cumsum1 (N := 16) (Nm1 := 15) rfl g f hg _ (bc0 _ _ _) _ _ e

include hf

theorem startsW_ap (e : Fin 16) : startsW g (ix1 e) = BitVec.ofNat 32 (cs f e.val) := by
  have b := rows_le hf (show e.val + 1 ≤ 16 from e.isLt)
  have c := cs_succ f e.val
  unfold startsW
  rw [subi_ap, endsW_ap hg, hg, ofNat_sub (by omega) (by omega)]
  exact congrArg (BitVec.ofNat 32) (by omega)

theorem firstW_ap (e : Fin 16) : firstW g (ix1 e) = BitVec.ofNat 32 (cs f e.val / 512) := by
  have b := rows_le hf (show e.val ≤ 16 from e.isLt.le)
  exact pyDiv_ap (hb := bcast_S_S16) _ _ _ (startsW_ap hg hf e) rfl (by omega) (by decide) (by decide)

theorem lastW_ap (e : Fin 16) (h : 0 < f e.val) : lastW g (ix1 e) = BitVec.ofNat 32 ((cs f (e.val + 1) - 1) / 512) := by
  have b := rows_le hf (show e.val + 1 ≤ 16 from e.isLt)
  have c := cs_succ f e.val
  refine pyDiv_ap (hb := bcast_S_S16) _ _ _ (a := cs f (e.val + 1) - 1) ?_ rfl (by omega) (by decide) (by decide)
  unfold k16
  rw [subi_ap, endsW_ap hg, show broadcastInDim S16 ![] bcast_S_S16 (constantI S_ 32 1#32) (ix1 e) = BitVec.ofNat 32 1 from bc0 _ _ _,
    ofNat_sub (by omega) (by omega)]

theorem tilesW_ap (e : Fin 16) : tilesW g (ix1 e) = BitVec.ofNat 32 (Walk.T f e.val) := by
  have b := rows_le hf (show e.val + 1 ≤ 16 from e.isLt)
  have c := cs_succ f e.val
  have k : ∀ v, k16 v (ix1 e) = v := fun v => bc0 _ _ _
  unfold tilesW tilesOf Walk.T
  rw [select_at, cmpi_at, addi_ap, subi_ap, k, k, hg e, show (0#32 : BitVec 32) = BitVec.ofNat 32 0 from rfl,
    WordCmp.cmpi_sgt_ofNat (by omega) (by omega)]
  by_cases h : 0 < f e.val
  · rw [if_pos h, lastW_ap hg hf e h, firstW_ap hg hf e]
    have hd : cs f e.val / 512 ≤ (cs f (e.val + 1) - 1) / 512 := Nat.div_le_div_right (by omega)
    rw [ofNat_sub hd (by omega), show (1#32 : BitVec 32) = BitVec.ofNat 32 1 from rfl, ← BitVec.ofNat_add]
    exact if_pos ((WordCmp.ofBool_decide_eq_one_iff _).2 (by omega))
  · rw [if_neg h]
    exact if_neg fun h' => h ((WordCmp.ofBool_decide_eq_one_iff _).1 h')

theorem itemEndW_ap (e : Fin 16) : itemEndW g (ix1 e) = BitVec.ofNat 32 (cs (Walk.T f) (e.val + 1)) := by
  unfold itemEndW cumW
  exact cumsum1 (N := 16) (Nm1 := 15) rfl _ (Walk.T f) (tilesW_ap hg hf) _ (bc0 _ _ _) _ _ e

theorem items_le39 {e : ℕ} (he : e ≤ 16) : cs (Walk.T f) e ≤ 39 := (cs_mono (Walk.T f) he).trans (total_le hf)

theorem itemStartW_ap (e : Fin 16) : itemStartW g (ix1 e) = BitVec.ofNat 32 (cs (Walk.T f) e.val) := by
  have b := items_le39 hg hf (show e.val + 1 ≤ 16 from e.isLt)
  have c := cs_succ (Walk.T f) e.val
  unfold itemStartW
  rw [subi_ap, itemEndW_ap hg hf, tilesW_ap hg hf, ofNat_sub (by omega) (by omega)]
  exact congrArg (BitVec.ofNat 32) (by omega)

theorem totalOf_ap : totalOf (itemEndW g) ValueIdx.ix0 = BitVec.ofNat 32 (total f) := by
  unfold totalOf
  have : ∀ x : IVec S1 32, shapeCast S_ x shapeCasts_S1_S_ ValueIdx.ix0 = x (ix1 (0 : Fin 1)) := fun x => by
    unfold shapeCast
    exact congrArg x ((eq_ix1 (n := 1) _).trans (congrArg ix1 (Subsingleton.elim (α := Fin 1) _ _)))
  rw [this]
  refine (slice1 (m := 16) (n := 1) 15 _ _ 0 (by decide)).trans ?_
  exact itemEndW_ap hg hf 15

theorem clampedOf_ap (t : Fin 39) : clampedOf (itemEndW g) (ix1 t) = BitVec.ofNat 32 (cl f t.val) := by
  have ht := t.isLt
  have h1 := total_pos hf
  have h2 := total_le hf
  rw [show clampedOf (itemEndW g) (ix1 t) = IntOp.minsi ((iotaInDim S39 32 0 : IVec S39 32) (ix1 t))
    (broadcastInDim S39 ![] bcast_S_S39 (subi (totalOf (itemEndW g)) (constantI S_ 32 1#32)) (ix1 t)) from rfl]
  rw [show broadcastInDim S39 ![] bcast_S_S39 (subi (totalOf (itemEndW g)) (constantI S_ 32 1#32)) (ix1 t)
      = BitVec.ofNat 32 (total f - 1) from by
        rw [show broadcastInDim S39 ![] bcast_S_S39 (subi (totalOf (itemEndW g)) (constantI S_ 32 1#32)) (ix1 t)
          = totalOf (itemEndW g) ValueIdx.ix0 - BitVec.ofNat 32 1 from bc0 _ _ _, totalOf_ap hg hf, ofNat_sub (by omega) (by omega)]]
  rw [show (iotaInDim S39 32 0 : IVec S39 32) (ix1 t) = BitVec.ofNat 32 t.val from rfl, PlanTiles.minsi_word (by omega) (by omega)]
  unfold cl; exact congrArg (BitVec.ofNat 32) (by omega)

theorem expertW_ap (t : Fin 39) : expertW g (ix1 t) = BitVec.ofNat 32 (ex f t.val) := by
  have hc := cl_lt hf t.val
  have h2 := total_le hf
  have he := ex_lt hf t.val
  unfold expertW
  rw [expertOf_eq (itemEndW g) t (fun e => cs (Walk.T f) (e + 1) ≤ cl f t.val) (fun e => ?_)]
  · show IntOp.minsi (BitVec.ofNat 32 (ex f t.val)) (BitVec.ofNat 32 15) = _
    rw [PlanTiles.minsi_word (by omega) (by omega)]
    exact congrArg (BitVec.ofNat 32) (by omega)
  · have b := items_le39 hg hf (show e.val + 1 ≤ 16 from e.isLt)
    rw [clampedOf_ap hg hf, itemEndW_ap hg hf, WordCmp.cmpi_sge_ofNat (by omega) (by omega), WordCmp.ofBool_decide_eq_one_iff]

theorem tileW_ap (t : Fin 39) : tileW g (ix1 t) = BitVec.ofNat 32 (tile f t.val) := by
  obtain ⟨he, h1, h2⟩ := ex_spec hf t.val
  have hc := cl_lt hf t.val
  have h39 := total_le hf
  have htl := tile_lt hf t.val
  have b := rows_le hf (le_of_lt he)
  have e : expertOf (itemEndW g) (ix1 t) = BitVec.ofNat 32 (ex f t.val) := expertW_ap hg hf t
  show IntOp.minsi (k39 23#32 (ix1 t)) (IntOp.maxsi (k39 0#32 (ix1 t)) (rawTileOf (firstW g) (itemEndW g) (itemStartW g) (ix1 t))) = _
  have k : ∀ v, k39 v (ix1 t) = v := fun v => bc0 _ _ _
  have hraw : rawTileOf (firstW g) (itemEndW g) (itemStartW g) (ix1 t) = BitVec.ofNat 32 (tile f t.val) := by
    unfold rawTileOf
    rw [subi_ap, addi_ap, takeW_ap (firstW g) _ t ⟨ex f t.val, he⟩ e, takeW_ap (itemStartW g) _ t ⟨ex f t.val, he⟩ e,
      firstW_ap hg hf, clampedOf_ap hg hf, itemStartW_ap hg hf, ← BitVec.ofNat_add]
    show BitVec.ofNat 32 (cs f (ex f t.val) / 512 + cl f t.val) - BitVec.ofNat 32 (cs (Walk.T f) (ex f t.val)) = _
    rw [ofNat_sub (by omega) (by omega)]
    unfold tile; exact congrArg (BitVec.ofNat 32) (by omega)
  rw [k, k, hraw, maxsi_zero_left (by omega), show (23#32 : BitVec 32) = BitVec.ofNat 32 23 from rfl, PlanTiles.minsi_word (by omega) (by omega)]
  exact congrArg (BitVec.ofNat 32) (by omega)

/-- A table's entry where the step has a work item. -/
theorem whereW_ap (x : IVec S39 32) (t : Fin 39) {v : ℕ} (hx : x (ix1 t) = BitVec.ofNat 32 v) :
    whereW (liveOf (totalOf (itemEndW g))) x (ix1 t) = BitVec.ofNat 32 (if t.val < total f then v else 0) := by
  have ht := t.isLt
  have h39 := total_le hf
  unfold whereW liveOf
  rw [select_at, cmpi_at, show (k39 0#32) (ix1 t) = 0#32 from bc0 _ _ _, hx,
    show broadcastInDim S39 ![] bcast_S_S39 (totalOf (itemEndW g)) (ix1 t) = BitVec.ofNat 32 (total f) from (bc0 _ _ _).trans (totalOf_ap hg hf),
    show (iotaInDim S39 32 0 : IVec S39 32) (ix1 t) = BitVec.ofNat 32 t.val from rfl, WordCmp.cmpi_slt_ofNat (by omega) (by omega)]
  by_cases h : t.val < total f
  · rw [if_pos h]; exact if_pos ((WordCmp.ofBool_decide_eq_one_iff _).2 h)
  · rw [if_neg h]; exact if_neg fun h' => h ((WordCmp.ofBool_decide_eq_one_iff _).1 h')

theorem loW_ap (t : Fin 39) : loW g (ix1 t) = BitVec.ofNat 32 (lo f t.val) := by
  unfold loW lo
  refine whereW_ap hg hf _ t ?_
  rw [takeW_ap (startsW g) _ t ⟨ex f t.val, ex_lt hf _⟩ (expertW_ap hg hf t), startsW_ap hg hf]

theorem hiW_ap (t : Fin 39) : hiW g (ix1 t) = BitVec.ofNat 32 (hi f t.val) := by
  unfold hiW hi
  refine whereW_ap hg hf _ t ?_
  rw [takeW_ap (endsW g) _ t ⟨ex f t.val, ex_lt hf _⟩ (expertW_ap hg hf t), endsW_ap hg]

end

end Cert.KernelIdeal.Hand
end
-- ==== Proof.Step.lean ====
/- One grid point's step, at exact arithmetic: off the tables' words there, the body leaves every row of its half-open
   interval the scaled product's row, and every row before the interval (or every row, of an empty step) as it found it. -/
module

public import proofs.«01_k».proof.Proof.Frame
public import proofs.«01_k».proof.Proof.BodyVal
public import proofs.«01_k».proof.Proof.Words

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)
open Idealize.ShloMosaic.Routing Idealize.ShloMosaic.ValueIdx

section Generic

variable {F : FTy → Type} [FloatOps F]

/-- A grid point's number. -/
theorem coords_val (t : Fin grid0.N) : (grid0.coords t 0).val = t.val := by
  rw [Pipeline.Grid.coords_val (G := grid0) t 0 (S := 1) (B := 39) (by decide) rfl, Nat.div_one]
  exact Nat.mod_eq_of_lt t.isLt

/-- The element of a table a grid point's load reads. -/
theorem tw_whole (v : View sig .tc .smem S39 .i32) (f : v.ty.Contents (Elt F)) (t : Fin grid0.N) :
    tw (F := F) v f (grid0.coords t) = v.read (Elt F) f (ix1 (n := 39) t) := by
  show v.read (Elt F) f _ = _
  refine congrArg (v.read (Elt F) f) (funext fun | ⟨0, _⟩ => Fin.ext ?_)
  show (BitVec.ofNat 32 (grid0.coords t 0).val).toNat + 1 * 0 = t.val
  rw [coords_val, BitVec.toNat_ofNat]
  have h : t.val < 39 := t.isLt
  omega

variable (m : (ℓ : Loc nD τ sig) → Buf (Elt F) ℓ)

/-- What the body leaves at a point. -/
def Rb (c : Dev nD) (t : Fin (cfgM m).N) (Y X : Vec F S512x4096 .bf16) : Prop :=
  BodyRel (ms0 m t).view (ms1 m t).view (ms2 m t).view (ms3 m t).view (ms4 m t).view
    (iblk m c 0 t) (iblk m c 1 t) (iblk m c 2 t) (iblk m c 3 t)
    (tw tbM0.view (tbl m 0) (grid0.coords t)) (tw tbM2.view (tbl m 2) (grid0.coords t)) (tw tbM3.view (tbl m 3) (grid0.coords t)) Y X

theorem body_val (c : Dev nD) (t : Fin (cfgM m).N) : BodyAt m (Rb m) c t := fun x9 K => by
  iintro ⟨HT0, HT2, HT3, H0, H1, H2, H3, H4, Hk⟩
  iapply (bodyVal c (grid0.coords t) _ _ _ _ _ _ _ _ _ _ _ _ _ _ _ _ _ _ fullShare.right fullShare.right fullShare.right
    (tbl m 0) (tbl m 2) (tbl m 3) (iblk m c 0 t) (iblk m c 1 t) (iblk m c 2 t) (iblk m c 3 t) x9 Set.univ K)
  isplitl [HT0]; · iexact HT0
  isplitl [HT2]; · iexact HT2
  isplitl [HT3]; · iexact HT3
  isplitl [H0]; · iexact H0
  isplitl [H1]; · iexact H1
  isplitl [H2]; · iexact H2
  isplitl [H3]; · iexact H3
  isplitl [H4]; · iexact H4
  iintro ⟨HT0, HT2, HT3, H0, H1, H2, H3, ⟨%d, %hd, H4⟩⟩
  iapply Hk
  isplitl [HT0]; · iexact HT0
  isplitl [HT2]; · iexact HT2
  isplitl [HT3]; · iexact HT3
  isplitl [H0]; · iexact H0
  isplitl [H1]; · iexact H1
  isplitl [H2]; · iexact H2
  isplitl [H3]; · iexact H3
  iexists d
  isplitr; swap; · iexact H4
  ipureintro; exact hd

end Generic

/-- A body's step, off the words it reads. -/
theorem step_of_rel {v5 : View sig .tc .vmem S512x1536 .fp8e4m3} {v6 : View sig .tc .vmem S512x1 .f32}
    {v7 : View sig .tc .vmem S1x1536x4096 .fp8e4m3} {v8 : View sig .tc .vmem S1x1x4096 .f32} {v9 : View sig .tc .vmem S512x4096 .bf16}
    {x5 : Vec Ideal S512x1536 .fp8e4m3} {x6 : Vec Ideal S512x1 .f32} {x7 : Vec Ideal S1x1536x4096 .fp8e4m3} {x8 : Vec Ideal S1x1x4096 .f32}
    {tl lo hi : BitVec 32} {x9 d : Vec Ideal S512x4096 .bf16} {tn ln hn : ℕ} (htn : tn < 24) (hln : ln ≤ 12288) (hhn : hn ≤ 12288)
    (et : tl = BitVec.ofNat 32 tn) (el : lo = BitVec.ofNat 32 ln) (eh : hi = BitVec.ofNat 32 hn)
    (h : BodyRel v5 v6 v7 v8 v9 x5 x6 x7 x8 tl lo hi x9 d) : StepRel tn ln hn (scaledAt x5 x6 x7 x8) x9 d := by
  obtain ⟨f5, f6, f7, f8, f9, g0, g1, g2, g3, rfl, rfl, rfl, rfl, rfl, e0, e1, e2, e3, rfl⟩ := h
  have p0 := blockOut_post v5 v6 v7 v8 v9 f5 f6 f7 f8 f9 0 (by decide) htn hln hhn et el eh
  have p1 := blockOut_post v5 v6 v7 v8 v9 f5 f6 f7 f8 g0 1 (by decide) htn hln hhn et el eh
  have p2 := blockOut_post v5 v6 v7 v8 v9 f5 f6 f7 f8 g1 2 (by decide) htn hln hhn et el eh
  have p3 := blockOut_post v5 v6 v7 v8 v9 f5 f6 f7 f8 g2 3 (by decide) htn hln hhn et el eh
  rw [← e0] at p0; rw [← e1] at p1; rw [← e2] at p2; rw [← e3] at p3
  exact step_of_blocks p0 p1 p2 p3

section Ideal

variable (m : (ℓ : Loc nD τ sig) → Buf (Elt Ideal) ℓ) {f : ℕ → ℕ} (hg : ∀ e : Fin 16, gs m (ix1 e) = BitVec.ofNat 32 (f e.val))
  (hf : Walk.cs f 16 = 12288)
include hg hf

/-- The step at a grid point, off the walk over the groups. -/
theorem step_at (c : Dev nD) (t : Fin (cfgM m).N) {Y X : Vec Ideal S512x4096 .bf16} (h : Rb m c t Y X) :
    StepRel (Walk.tile f t.val) (Walk.lo f t.val) (Walk.hi f t.val)
      (scaledAt (iblk m c 0 t) (iblk m c 1 t) (iblk m c 2 t) (iblk m c 3 t)) Y X := by
  refine step_of_rel (Walk.tile_lt hf _) (Walk.lo_le hf _) (Walk.hi_le hf _) ?_ ?_ ?_ h
  · exact (tw_whole _ _ t).trans ((congrFun (tbl_0 m) _).trans (tileW_ap hg hf t))
  · exact (tw_whole _ _ t).trans ((congrFun (tbl_2 m) _).trans (loW_ap hg hf t))
  · exact (tw_whole _ _ t).trans ((congrFun (tbl_3 m) _).trans (hiW_ap hg hf t))

end Ideal

end Cert.KernelIdeal.Hand
end
-- ==== Proof.Blocks.lean ====
/- The windows' blocks at coordinates: the rows of the step's tile, the weights and scales of its expert; and so the step's
   scaled product, at its expert's rows, is the grouped product. -/
module

public import proofs.«01_k».proof.Proof.Step
public import Idealize.ShloMosaic.Lib.Pipeline.ValueKit

@[expose] public section

set_option maxRecDepth 16384

noncomputable section

namespace Cert.KernelIdeal.Hand

open Cert.KernelIdeal Cert.KernelIdeal.Gen
open Idealize.ShloMosaic hiding ix1 ix2 ix3
open Idealize.ShloMosaic.TcCoe
open Idealize.ShloMosaic.Pipeline (Dat RDat Cfg Window cellOf)
open Idealize.ShloMosaic.Routing Idealize.ShloMosaic.ValueIdx

/-- The grouped product at an element, under expert `e`: the row's dot product with the expert's weights, scaled. -/
def grouped (x : Vec Ideal S12288x1536 .fp8e4m3) (xs : Vec Ideal S12288x1 .f32) (w : Vec Ideal S16x1536x4096 .fp8e4m3)
    (ws : Vec Ideal S16x4096 .f32) (e : Fin 16) (r : Fin 12288) (n : Fin 4096) : EReal :=
  (∑ k : Fin 1536, (x (ix2 r k) : EReal) * w (ix3 e k n)) * xs (ix2 r (0 : Fin 1)) * ws (ix2 e n)

/-- The weight scales with a unit axis put in between read as before. -/
theorem scales_apply (x : Vec Ideal S16x4096 .f32) (e : Fin 16) (n : Fin 4096) :
    shapeCast S16x1x4096 x shapeCasts_S16x4096_S16x1x4096 (ix3 e (0 : Fin 1) n) = x (ix2 e n) :=
  shapeCast_apply x _ _ _ (by
    rw [Shape.rowMajor_val_three, Shape.rowMajor_val_two]
    show e.val * 4096 + n.val = (e.val * 1 + 0) * 4096 + n.val
    omega)

variable (m : (ℓ : Loc nD τ sig) → Buf (Elt Ideal) ℓ) {f : ℕ → ℕ} (hg : ∀ e : Fin 16, gs m (ValueIdx.ix1 e) = BitVec.ofNat 32 (f e.val))
  (hf : Walk.cs f 16 = 12288)

/-! ## The index maps -/

section
include hg hf

theorem tbl0_at (t : Fin (cfgM m).N) : (tbl m 0 (ValueIdx.ix1 (n := 39) t) : BitVec 32).toNat = Walk.tile f t.val := by
  rw [show tbl m 0 (ValueIdx.ix1 (n := 39) t) = BitVec.ofNat 32 (Walk.tile f t.val) from (congrFun (tbl_0 m) _).trans (tileW_ap hg hf t), BitVec.toNat_ofNat]
  have := Walk.tile_lt hf t.val
  omega

theorem tbl1_at (t : Fin (cfgM m).N) : (tbl m 1 (ValueIdx.ix1 (n := 39) t) : BitVec 32).toNat = Walk.ex f t.val := by
  rw [show tbl m 1 (ValueIdx.ix1 (n := 39) t) = BitVec.ofNat 32 (Walk.ex f t.val) from (congrFun (tbl_1 m) _).trans (expertW_ap hg hf t), BitVec.toNat_ofNat]
  have := Walk.ex_lt hf t.val
  omega

end

/-- The table element an index map reads at a grid point. -/
theorem rect_first (t : Fin grid0.N) (h : ∀ a, (k0_off1 (grid0.coords t)) a + S1.size a ≤ S39.size a) (h1) :
    (Rect.unit (s := S39) (k0_off1 (grid0.coords t)) S1.size h).emb (Shape.Idx.first h1) = ValueIdx.ix1 (n := 39) t := by
  refine funext fun | ⟨0, _⟩ => Fin.ext ?_
  show (BitVec.ofNat 32 (grid0.coords t 0).val).toNat + 1 * 0 = t.val
  rw [coords_val, BitVec.toNat_ofNat]
  have h : t.val < 39 := t.isLt
  omega

section
variable (pf : pre0.Contents (Elt Ideal)) (t : Fin grid0.N)

theorem transform_0 : cc0_transform_0 k0_off1_inb numel1_S1 pf (grid0.coords t) = ![(pf 0 (ix1 (n := 39) t) : BitVec 32).toNat, 0] := by
  unfold cc0_transform_0
  exact congrArg (fun x => (![(pf 0 x : BitVec 32).toNat, 0] : Fin 2 → ℕ)) (rect_first t _ _)

theorem transform_1 : cc0_transform_1 k0_off1_inb numel1_S1 pf (grid0.coords t) = ![(pf 0 (ix1 (n := 39) t) : BitVec 32).toNat, 0] := by
  unfold cc0_transform_1
  exact congrArg (fun x => (![(pf 0 x : BitVec 32).toNat, 0] : Fin 2 → ℕ)) (rect_first t _ _)

theorem transform_2 : cc0_transform_2 k0_off1_inb numel1_S1 pf (grid0.coords t) = ![(pf 1 (ix1 (n := 39) t) : BitVec 32).toNat, 0, 0] := by
  unfold cc0_transform_2
  exact congrArg (fun x => (![(pf 1 x : BitVec 32).toNat, 0, 0] : Fin 3 → ℕ)) (rect_first t _ _)

theorem transform_3 : cc0_transform_3 k0_off1_inb numel1_S1 pf (grid0.coords t) = ![(pf 1 (ix1 (n := 39) t) : BitVec 32).toNat, 0, 0] := by
  unfold cc0_transform_3
  exact congrArg (fun x => (![(pf 1 x : BitVec 32).toNat, 0, 0] : Fin 3 → ℕ)) (rect_first t _ _)

theorem transform_4 : cc0_transform_4 k0_off1_inb numel1_S1 pf (grid0.coords t) = ![(pf 0 (ix1 (n := 39) t) : BitVec 32).toNat, 0] := by
  unfold cc0_transform_4
  exact congrArg (fun x => (![(pf 0 x : BitVec 32).toNat, 0] : Fin 2 → ℕ)) (rect_first t _ _)

end

theorem index0_of (pf : pre0.Contents (Elt Ideal)) (hok : ok0 pf) (t : Fin grid0.N) (n : ℕ)
    (h : (pf 0 (ix1 (n := 39) t) : BitVec 32).toNat = n) : ((cfg0 ⟨pf, hok⟩).win 0).index t = (![n, 0] : Fin 2 → ℕ) := by
  subst h
  exact transform_0 pf t

theorem index1_of (pf : pre0.Contents (Elt Ideal)) (hok : ok0 pf) (t : Fin grid0.N) (n : ℕ)
    (h : (pf 0 (ix1 (n := 39) t) : BitVec 32).toNat = n) : ((cfg0 ⟨pf, hok⟩).win 1).index t = (![n, 0] : Fin 2 → ℕ) := by
  subst h
  exact transform_1 pf t

theorem index4_of (pf : pre0.Contents (Elt Ideal)) (hok : ok0 pf) (t : Fin grid0.N) (n : ℕ)
    (h : (pf 0 (ix1 (n := 39) t) : BitVec 32).toNat = n) : ((cfg0 ⟨pf, hok⟩).win 4).index t = (![n, 0] : Fin 2 → ℕ) := by
  subst h
  exact transform_4 pf t

section
include hg hf

theorem index0 (t : Fin (cfgM m).N) : ((cfgM m).win 0).index t = (![Walk.tile f t.val, 0] : Fin 2 → ℕ) :=
  index0_of (tbl m) (ok m) t _ (tbl0_at m hg hf t)

theorem index1 (t : Fin (cfgM m).N) : ((cfgM m).win 1).index t = (![Walk.tile f t.val, 0] : Fin 2 → ℕ) :=
  index1_of (tbl m) (ok m) t _ (tbl0_at m hg hf t)

theorem index2 (t : Fin (cfgM m).N) : ((cfgM m).win 2).index t = (![Walk.ex f t.val, 0, 0] : Fin 3 → ℕ) :=
  (transform_2 (tbl m) t).trans (congrArg (fun n => (![n, 0, 0] : Fin 3 → ℕ)) (tbl1_at m hg hf t))

theorem index3 (t : Fin (cfgM m).N) : ((cfgM m).win 3).index t = (![Walk.ex f t.val, 0, 0] : Fin 3 → ℕ) :=
  (transform_3 (tbl m) t).trans (congrArg (fun n => (![n, 0, 0] : Fin 3 → ℕ)) (tbl1_at m hg hf t))

theorem index4 (t : Fin (cfgM m).N) : ((cfgM m).win 4).index t = (![Walk.tile f t.val, 0] : Fin 2 → ℕ) :=
  index4_of (tbl m) (ok m) t _ (tbl0_at m hg hf t)

/-! ## The blocks -/

/-- The row of the array that row `r` of the tile at step `t` is. -/
def rowAt (t : ℕ) (r : Fin 512) : Fin 12288 := ⟨Walk.tile f t * 512 + r.val, by have := Walk.tile_lt hf t; have := r.isLt; omega⟩

/-- The expert at step `t`. -/
def exAt (t : ℕ) : Fin 16 := ⟨Walk.ex f t, Walk.ex_lt hf t⟩

theorem iblk0_at (c : Dev nD) (t : Fin (cfgM m).N) (r : Fin 512) (k : Fin 1536) :
    iblk m c 0 t (ix2 r k) = m ((c : Thread nD τ).loc main_arg0) (ix2 (rowAt hf t.val r) k) := by
  refine (congrArg (V m c main_arg0) (funext ?_)).trans (congrFun (V_main_arg0 m c) _)
  intro a
  refine Fin.ext ((Window.rect_emb_val ((cfgM m).win 0) t _ a).trans ?_)
  rw [index0 m hg hf]
  match a with
  | ⟨0, _⟩ => rfl
  | ⟨1, _⟩ => exact (congrArg (· + k.val) (Nat.zero_mul _)).trans (Nat.zero_add _)

theorem iblk1_at (c : Dev nD) (t : Fin (cfgM m).N) (r : Fin 512) (k : Fin 1) :
    iblk m c 1 t (ix2 r k) = m ((c : Thread nD τ).loc main_arg1) (ix2 (rowAt hf t.val r) k) := by
  refine (congrArg (V m c main_arg1) (funext ?_)).trans (congrFun (V_main_arg1 m c) _)
  intro a
  refine Fin.ext ((Window.rect_emb_val ((cfgM m).win 1) t _ a).trans ?_)
  rw [index1 m hg hf]
  match a with
  | ⟨0, _⟩ => rfl
  | ⟨1, _⟩ => exact (congrArg (· + k.val) (Nat.zero_mul _)).trans (Nat.zero_add _)

theorem iblk2_at (c : Dev nD) (t : Fin (cfgM m).N) (k : Fin 1536) (n : Fin 4096) :
    iblk m c 2 t (ix3 (0 : Fin 1) k n) = m ((c : Thread nD τ).loc main_arg3) (ix3 (exAt hf t.val) k n) := by
  refine (congrArg (V m c main_arg3) (funext ?_)).trans (congrFun (V_main_arg3 m c) _)
  intro a
  refine Fin.ext ((Window.rect_emb_val ((cfgM m).win 2) t _ a).trans ?_)
  rw [index2 m hg hf]
  match a with
  | ⟨0, _⟩ => exact (Nat.add_zero _).trans (Nat.mul_one _)
  | ⟨1, _⟩ => exact (congrArg (· + k.val) (Nat.zero_mul _)).trans (Nat.zero_add _)
  | ⟨2, _⟩ => exact (congrArg (· + n.val) (Nat.zero_mul _)).trans (Nat.zero_add _)

theorem iblk3_at (c : Dev nD) (t : Fin (cfgM m).N) (n : Fin 4096) :
    iblk m c 3 t (ix3 (0 : Fin 1) (0 : Fin 1) n) = m ((c : Thread nD τ).loc main_arg4) (ix2 (exAt hf t.val) n) := by
  refine (congrArg (V m c main_v64) (funext ?_)).trans ((congrFun (V_main_v64 m c) _).trans (scales_apply _ (exAt hf t.val) n))
  intro a
  refine Fin.ext ((Window.rect_emb_val ((cfgM m).win 3) t _ a).trans ?_)
  rw [index3 m hg hf]
  match a with
  | ⟨0, _⟩ => exact (Nat.add_zero _).trans (Nat.mul_one _)
  | ⟨1, _⟩ => rfl
  | ⟨2, _⟩ => exact (congrArg (· + n.val) (Nat.zero_mul _)).trans (Nat.zero_add _)

/-- The scaled product at a step, of the arrays' elements. -/
theorem scaled_blk (c : Dev nD) (t : Fin (cfgM m).N) (r : Fin 512) (n : Fin 4096) :
    scaledAt (iblk m c 0 t) (iblk m c 1 t) (iblk m c 2 t) (iblk m c 3 t) r n
      = grouped (m ((c : Thread nD τ).loc main_arg0)) (m ((c : Thread nD τ).loc main_arg1)) (m ((c : Thread nD τ).loc main_arg3))
          (m ((c : Thread nD τ).loc main_arg4)) (exAt hf t.val) (rowAt hf t.val r) n := by
  unfold scaledAt grouped
  rw [iblk1_at m hg hf, iblk3_at m hg hf]
  simp only [iblk0_at m hg hf, iblk2_at m hg hf]

end

end Cert.KernelIdeal.Hand
end
-- ==== Proof.Final.lean ====
/- The region's end: every row of the result holds the grouped product of its expert. A row's last owner among the steps
   writes it, later steps of the same tile leave it, and the tile is written back after the last of them. -/
module

public import proofs.«01_k».proof.Proof.Blocks
public import Idealize.ShloMosaic.Lib.Pipeline.ArrRel

@[expose] public section

set_option maxRecDepth 16384

noncomputable section

namespace Cert.KernelIdeal.Hand

open Cert.KernelIdeal Cert.KernelIdeal.Gen
open Idealize.ShloMosaic hiding ix1 ix2 ix3
open Idealize.ShloMosaic.TcCoe
open Idealize.ShloMosaic.Pipeline (Dat RDat Cfg Window cellOf)
open Idealize.ShloMosaic.Routing Idealize.ShloMosaic.ValueIdx

/-- The result's window writes back at the last step and where the next step's tile is another. -/
theorem flush_iff_of (pf : pre0.Contents (Elt Ideal)) (hok : ok0 pf) (T : ℕ → ℕ)
    (hT : ∀ t : Fin grid0.N, (pf 0 (ix1 (n := 39) t) : BitVec 32).toNat = T t.val) (t : Fin grid0.N) :
    ((cfg0 ⟨pf, hok⟩).win 4).flush t = true ↔ (t.val + 1 = 39 ∨ ∃ h : t.val + 1 < 39, T (t.val + 1) ≠ T t.val) := by
  have e : ((cfg0 ⟨pf, hok⟩).win 4).flush t = (true && (t.val + 1 = grid0.N || decide (∃ h : t.val + 1 < grid0.N,
      ((cfg0 ⟨pf, hok⟩).win 4).index ⟨t.val + 1, h⟩ ≠ ((cfg0 ⟨pf, hok⟩).win 4).index t))) := rfl
  rw [e, Bool.true_and, Bool.or_eq_true, decide_eq_true_iff, decide_eq_true_iff]
  refine or_congr Iff.rfl (exists_congr fun h => ?_)
  rw [index4_of pf hok _ _ (hT _), index4_of pf hok _ _ (hT _)]
  exact not_congr ⟨fun h => congrFun h 0, fun h => by rw [h]⟩

variable (m : (ℓ : Loc nD τ sig) → Buf (Elt Ideal) ℓ) {f : ℕ → ℕ} (hg : ∀ e : Fin 16, gs m (ValueIdx.ix1 e) = BitVec.ofNat 32 (f e.val))
  (hf : Walk.cs f 16 = 12288)

/-- The expert that owns a row. -/
def ownAt (r : Fin 12288) : Fin 16 := ⟨Walk.own f r.val, (Walk.own_spec f (hf.symm ▸ r.isLt)).1⟩

/-- What the result holds at the end. -/
def goal (c : Dev nD) (r : Fin 12288) (n : Fin 4096) : EReal :=
  grouped (m ((c : Thread nD τ).loc main_arg0)) (m ((c : Thread nD τ).loc main_arg1)) (m ((c : Thread nD τ).loc main_arg3))
    (m ((c : Thread nD τ).loc main_arg4)) (ownAt hf r) r n

section
include hg hf

/-- Two steps of one tile have one output block. -/
theorem index4_eq {t t' : Fin (cfgM m).N} (h : Walk.tile f t.val = Walk.tile f t'.val) :
    ((cfgM m).win 4).index t = ((cfgM m).win 4).index t' := by
  rw [index4 m hg hf, index4 m hg hf, h]

theorem tile_eq_of_index {t t' : Fin (cfgM m).N} (h : ((cfgM m).win 4).index t = ((cfgM m).win 4).index t') :
    Walk.tile f t.val = Walk.tile f t'.val := by
  rw [index4 m hg hf, index4 m hg hf] at h
  exact congrFun h 0

theorem flush_iff (t : Fin (cfgM m).N) : ((cfgM m).win 4).flush t = true ↔
    (t.val + 1 = 39 ∨ ∃ h : t.val + 1 < 39, Walk.tile f (t.val + 1) ≠ Walk.tile f t.val) :=
  flush_iff_of (tbl m) (ok m) (Walk.tile f) (fun t => tbl0_at m hg hf t) t

/-- The step that writes a row leaves its product. -/
theorem row_written (c : Dev nD) (r : Fin 12288) (n : Fin 4096) (t : Fin (cfgM m).N) (htile : Walk.tile f t.val = r.val / 512)
    (hex : Walk.ex f t.val = Walk.own f r.val) (hlo : Walk.lo f t.val ≤ r.val) (hhi : r.val < Walk.hi f t.val)
    (Y X : Vec Ideal S512x4096 .bf16) (hX : Rb m c t Y X) :
    X (ix2 (⟨r.val % 512, Nat.mod_lt _ (by decide)⟩ : Fin 512) n) = goal m hf c r n := by
  have hs := (step_at m hg hf c t hX ⟨r.val % 512, Nat.mod_lt _ (by decide)⟩ n).1
  have hr : Walk.tile f t.val * 512 + r.val % 512 = r.val := by rw [htile]; omega
  refine (hs ⟨?_, ?_⟩).trans ((scaled_blk m hg hf c t _ n).trans ?_)
  · exact hlo.trans hr.ge
  · exact hr.le.trans_lt hhi
  · unfold goal
    have e1 : exAt hf t.val = ownAt hf r := Fin.ext hex
    have e2 : rowAt hf t.val ⟨r.val % 512, Nat.mod_lt _ (by decide)⟩ = r := Fin.ext hr
    rw [e1, e2]

/-- A later step on the row's tile keeps the row. -/
theorem row_kept (c : Dev nD) (r : Fin 12288) (n : Fin 4096) (t : Fin (cfgM m).N) (htile : Walk.tile f t.val = r.val / 512)
    (hafter : r.val < Walk.lo f t.val ∨ Walk.hi f t.val = 0) (Y X : Vec Ideal S512x4096 .bf16) (hX : Rb m c t Y X) :
    X (ix2 (⟨r.val % 512, Nat.mod_lt _ (by decide)⟩ : Fin 512) n) = Y (ix2 (⟨r.val % 512, Nat.mod_lt _ (by decide)⟩ : Fin 512) n) := by
  have hs := (step_at m hg hf c t hX ⟨r.val % 512, Nat.mod_lt _ (by decide)⟩ n).2
  have hr : Walk.tile f t.val * 512 + r.val % 512 = r.val := by rw [htile]; omega
  exact hs (hafter.imp_left fun h => hr.le.trans_lt h)

end

section
omit hg hf

theorem fetch4_of (pf : pre0.Contents (Elt Ideal)) (hok : ok0 pf) (t : Fin grid0.N) : ((cfg0 ⟨pf, hok⟩).win 4).fetch t = false := rfl

theorem leaves4 (c : Dev nD) (t : Fin (cfgM m).N) (X : Vec Ideal S512x4096 .bf16) (h : (rdat m (Rb m) c).Leaves 4 t X) :
    ∃ Y : Vec Ideal S512x4096 .bf16, (rdat m (Rb m) c).Finds 4 t Y ∧ Rb m c t Y X := h

/-- A step that follows one that did not write back finds what that one left. -/
theorem finds4 (c : Dev nD) (t : Fin (cfgM m).N) (ht : t.val ≠ 0) (Y : Vec Ideal S512x4096 .bf16) (h : (rdat m (Rb m) c).Finds 4 t Y)
    (hn : ¬ ((cfgM m).win 4).flush ⟨t.val - 1, Nat.lt_of_le_of_lt (Nat.sub_le _ _) t.isLt⟩ = true) :
    (rdat m (Rb m) c).Leaves 4 ⟨t.val - 1, Nat.lt_of_le_of_lt (Nat.sub_le _ _) t.isLt⟩ Y :=
  (((rdat m (Rb m) c).finds_of_pos (w := 4) (fetch4_of (tbl m) (ok m) t) ht Y).mp h).resolve_left hn

end

section
include hg hf

/-- From the row's step on, as long as its tile is at hand, the buffer holds the row's product. -/
theorem leaves_row (c : Dev nD) (r : Fin 12288) (n : Fin 4096) {t₀ : ℕ} (h0 : Walk.tile f t₀ = r.val / 512)
    (hex : Walk.ex f t₀ = Walk.own f r.val) (hlo : Walk.lo f t₀ ≤ r.val) (hhi : r.val < Walk.hi f t₀)
    (hafter : ∀ t', t₀ < t' → Walk.tile f t' = r.val / 512 → r.val < Walk.lo f t' ∨ Walk.hi f t' = 0) (d : ℕ) :
    ∀ t : Fin (cfgM m).N, t.val = t₀ + d → Walk.tile f t.val = r.val / 512 →
      ∀ X : Vec Ideal S512x4096 .bf16, (rdat m (Rb m) c).Leaves 4 t X →
        X (ix2 (⟨r.val % 512, Nat.mod_lt _ (by decide)⟩ : Fin 512) n) = goal m hf c r n := by
  induction d with
  | zero =>
    intro t ht htile X hX
    obtain ⟨Y, -, hR⟩ := leaves4 m c t X hX
    obtain rfl : t.val = t₀ := ht
    exact row_written m hg hf c r n t htile hex hlo hhi Y X hR
  | succ d ih =>
    intro t ht htile X hX
    obtain ⟨Y, hY, hR⟩ := leaves4 m c t X hX
    have hp : t.val ≠ 0 := by omega
    have htp : Walk.tile f (t.val - 1) = r.val / 512 := by
      have h1 := Walk.tile_mono hf (show t₀ ≤ t.val - 1 by omega)
      have h2 := Walk.tile_mono hf (show t.val - 1 ≤ t.val by omega)
      omega
    have hnf : ¬ ((cfgM m).win 4).flush ⟨t.val - 1, Nat.lt_of_le_of_lt (Nat.sub_le _ _) t.isLt⟩ = true := by
      intro hh
      have hlt : t.val < 39 := t.isLt
      have e : t.val - 1 + 1 = t.val := by omega
      rcases (flush_iff m hg hf _).mp hh with h | ⟨h, hne⟩
      · have h' : t.val - 1 + 1 = 39 := h
        omega
      · refine hne ?_
        exact (congrArg (Walk.tile f) e).trans (htile.trans htp.symm)
    have hL := finds4 m c t hp Y hY hnf
    exact (row_kept m hg hf c r n t htile (hafter t.val (by omega) htile) Y X hR).trans
      (ih ⟨t.val - 1, Nat.lt_of_le_of_lt (Nat.sub_le _ _) t.isLt⟩ (show t.val - 1 = t₀ + d by omega) htp Y hL)

/-- The last step of a row's tile. -/
theorem exists_flush (r : Fin 12288) {t₀ : ℕ} (ht₀ : t₀ < 39) (h0 : Walk.tile f t₀ = r.val / 512) :
    ∃ t : Fin (cfgM m).N, t₀ ≤ t.val ∧ Walk.tile f t.val = r.val / 512 ∧ ((cfgM m).win 4).flush t = true := by
  have key : ∀ d t, t + d = 38 → t₀ ≤ t → Walk.tile f t = r.val / 512 →
      ∃ t' < 39, t₀ ≤ t' ∧ Walk.tile f t' = r.val / 512 ∧ (t' + 1 = 39 ∨ ∃ _ : t' + 1 < 39, Walk.tile f (t' + 1) ≠ Walk.tile f t') := by
    intro d
    induction d with
    | zero => exact fun t h1 h2 h3 => ⟨t, by omega, h2, h3, .inl (by omega)⟩
    | succ d ih =>
      intro t h1 h2 h3
      by_cases h : Walk.tile f (t + 1) = Walk.tile f t
      · exact ih (t + 1) (by omega) (by omega) (h.trans h3)
      · exact ⟨t, by omega, h2, h3, .inr ⟨by omega, h⟩⟩
  obtain ⟨t', hlt, h1, h2, h3⟩ := key (38 - t₀) t₀ (by omega) le_rfl h0
  exact ⟨⟨t', hlt⟩, h1, h2, (flush_iff m hg hf _).mpr h3⟩

/-- Two steps that write back write different tiles. -/
theorem flush_inj (t t' : Fin (cfgM m).N) (h : ((cfgM m).win 4).flush t = true) (h' : ((cfgM m).win 4).flush t' = true)
    (e : ((cfgM m).win 4).index t = ((cfgM m).win 4).index t') : t = t' := by
  have e := tile_eq_of_index m hg hf e
  have key : ∀ u u' : Fin (cfgM m).N, ((cfgM m).win 4).flush u = true → Walk.tile f u.val = Walk.tile f u'.val → ¬ u.val < u'.val := by
    intro u u' hu e hlt
    have hu' : u'.val < 39 := u'.isLt
    rcases (flush_iff m hg hf u).mp hu with h | ⟨h, hne⟩
    · omega
    · have h1 := Walk.tile_mono hf (show u.val ≤ u.val + 1 by omega)
      have h2 := Walk.tile_mono hf (show u.val + 1 ≤ u'.val by omega)
      omega
  have h1 := key t t' h e
  have h2 := key t' t h' e.symm
  exact Fin.ext (by omega)

/-- The result at the end, at every element. -/
theorem final_at {r : PUnit × MemSt nD τ sig (Elt Ideal)} (h : RDat.FramePost (cfgM m) (rdat m (Rb m)) (V m) r) (c : Dev nD)
    (row : Fin 12288) (n : Fin 4096) :
    r.2.mem ((c.tc : Thread nD τ).loc main_v65) (ix2 row n) = goal m hf c row n := by
  obtain ⟨after, hL, hA⟩ := RDat.FramePost.exists_exact h c
  obtain ⟨t₀, hlt, h0, hex, hlo, hhi, haft⟩ := Walk.exists_step hf row.isLt
  obtain ⟨t, hle, htile, hfl⟩ := exists_flush m hg hf row hlt h0
  have hrow := leaves_row m hg hf c row n h0 hex hlo hhi haft (t.val - t₀) t (by omega) htile _ (hL 4 t hfl)
  have hw := ((rdat m (Rb m) c).withAfter after).arrAt_emb_eq_flushed 4
    (((cfgM m).win 4).hdisj_of_index_inj (flush_inj m hg hf)) t hfl (ix2 (⟨row.val % 512, Nat.mod_lt _ (by decide)⟩ : Fin 512) n)
  refine (congrFun (hA 4) _).trans (Eq.trans ?_ (hw.trans hrow))
  refine congrArg (((rdat m (Rb m) c).withAfter after).arrAt 4 (cfgM m).N) (funext ?_)
  intro a
  refine Fin.ext (Eq.symm ((Window.rect_emb_val ((cfgM m).win 4) t _ a).trans ?_))
  rw [index4 m hg hf]
  match a with
  | ⟨0, _⟩ =>
    show Walk.tile f t.val * 512 + row.val % 512 = row.val
    rw [htile]; omega
  | ⟨1, _⟩ => exact (congrArg (· + n.val) (Nat.zero_mul _)).trans (Nat.zero_add _)

end

end Cert.KernelIdeal.Hand
end
-- ==== Proof.RefValue.lean ====
/- What the reference's body stores: sixteen masked steps over an array of zeros. -/
module

public import proofs.«01_k».proof.Proof.Gen.ReferenceIdeal.Value
public import proofs.«01_k».proof.Proof.Walk
public import Idealize.ShloMosaic.Lib.Pipeline.ValueKit
public import Idealize.ShloMosaic.Lib.MatmulPlain
public import Idealize.ShloMosaic.Lib.ValueIdx
public import Idealize.ShloMosaic.Lib.ValueLayout
public import Idealize.ShloMosaic.Lib.WordCmp
public import Idealize.ShloMosaic.PureOps.Ideal.Laws

@[expose] public section

set_option maxRecDepth 16384

noncomputable section

namespace Cert.ReferenceIdeal.Hand

open Cert.ReferenceIdeal Cert.ReferenceIdeal.Gen
open Idealize.ShloMosaic hiding ix1 ix2 ix3
open Idealize.ShloMosaic.TcCoe
open Idealize.ShloMosaic.Pipeline (Dat Cfg Window)
open Idealize.ShloMosaic.ValueIdx Idealize.ShloMosaic.WordCmp

open Cert.KernelIdeal.Hand.Walk (cs cs_mono cs_succ own own_eq own_spec rows_le)

variable {F : FTy → Type} [FloatOps F]

/-! ## One expert's step -/

/-- The row numbers. -/
abbrev rowsV : IVec S12288x1 32 := iota .tc S12288x1 32 [0] iota_S12288x1_d0_w32

/-- One expert's step over `y`: the rows in `[lo, hi)` take their scaled products, the others keep what `y` has. -/
def stepV (x : FVec F S12288x1536 .f32) (w : Vec F S1x1536x4096 .fp8e4m3) (lo hi : BitVec 32) (xs : Vec F S12288x1 .f32)
    (ws : Vec F S1x4096 .f32) (y : FVec F S12288x4096 .f32) : FVec F S12288x4096 .f32 :=
  select (broadcastTo S12288x4096 (shapeCast S12288x1
      (andi (cmpi .sge rowsV (broadcast S12288x1 lo)) (cmpi .slt rowsV (broadcast S12288x1 hi))) shapeCasts_S12288x1_S12288x1)
      broadcasts_S12288x1_S12288x4096)
    (mulf (mulf (matmul dot_S12288x1536_S1536x4096_S12288x4096_1_0_0_1_n_n none x
        (extf .f32 (shapeCast S1536x4096 w shapeCasts_S1x1536x4096_S1536x4096) bitsLt_fp8e4m3_f32) (constant S12288x4096 .f32 0x00000000#32))
      (broadcastTo S12288x4096 xs broadcasts_S12288x1_S12288x4096))
      (broadcastTo S12288x4096 ws broadcasts_S1x4096_S12288x4096)) y

/-- The array of zeros the steps begin with. -/
def zeroV : FVec F S12288x4096 .f32 := broadcast S12288x4096 (Scalar.ofBits .f32 0x00000000#32)

section
variable (v0 : Vec F S12288x1536 .fp8e4m3) (x : FVec F S12288x1536 .f32) (y : FVec F S12288x4096 .f32)
  (w w' : Vec F S1x1536x4096 .fp8e4m3) (lo hi lo' hi' : BitVec 32) (xs xs' : Vec F S12288x1 .f32) (ws ws' : Vec F S1x4096 .f32)

theorem pay3_eq : k0_pay3 v0 w lo hi xs ws = stepV (k0_pay2 v0) w lo hi xs ws zeroV := rfl
theorem pay6_eq : k0_pay6 x rowsV y (k0_pay4 (F := F) lo hi) (k0_pay5 v0 w xs) ws w' lo' hi' xs' ws'
    = stepV x w' lo' hi' xs' ws' (stepV (k0_pay2 v0) w lo hi xs ws y) := rfl
theorem pay9_eq : k0_pay9 x rowsV y (k0_pay7 (F := F) rowsV lo hi) (k0_pay8 x w xs) ws w' lo' hi' xs' ws'
    = stepV x w' lo' hi' xs' ws' (stepV x w lo hi xs ws y) := rfl
theorem pay12_eq : k0_pay12 x rowsV y (k0_pay10 (F := F) rowsV lo hi) (k0_pay11 x w xs) ws w' lo' hi' xs' ws'
    = stepV x w' lo' hi' xs' ws' (stepV x w lo hi xs ws y) := rfl
theorem pay15_eq : k0_pay15 x rowsV y (k0_pay13 (F := F) rowsV lo hi) (k0_pay14 x w xs) ws w' lo' hi' xs' ws'
    = stepV x w' lo' hi' xs' ws' (stepV x w lo hi xs ws y) := rfl
theorem pay18_eq : k0_pay18 x rowsV y (k0_pay16 (F := F) rowsV lo hi) (k0_pay17 x w xs) ws w' lo' hi' xs' ws'
    = stepV x w' lo' hi' xs' ws' (stepV x w lo hi xs ws y) := rfl
theorem pay21_eq : k0_pay21 x rowsV y (k0_pay19 (F := F) rowsV lo hi) (k0_pay20 x w xs) ws w' lo' hi' xs' ws'
    = stepV x w' lo' hi' xs' ws' (stepV x w lo hi xs ws y) := rfl
theorem pay24_eq : k0_pay24 x rowsV y (k0_pay22 (F := F) rowsV lo hi) (k0_pay23 x w xs) ws w' lo' hi' xs' ws'
    = stepV x w' lo' hi' xs' ws' (stepV x w lo hi xs ws y) := rfl
theorem pay1_eq : k0_pay1 y (k0_pay25 (F := F) rowsV lo hi) (k0_pay26 x w xs) ws = truncf .bf16 (stepV x w lo hi xs ws y) bitsLt_bf16_f32 := rfl
end

/-! ## The sixteen loads of each array -/

theorem ld_word (v : Vec F S16 .i32) (e : Fin 16) (h : ∀ a, (![e.val] : Fin 1 → ℕ) a + (![1] : Fin 1 → ℕ) a ≤ S16.size a) (h1) :
    View.ld v (Rect.unit ![e.val] ![1] h) (Shape.Idx.first h1) = v (ix1 e) :=
  congrArg v (funext fun | ⟨0, _⟩ => Fin.ext rfl)

theorem ld_weights (v : Vec F S16x1536x4096 .fp8e4m3) (e : Fin 16)
    (h : ∀ a, (![e.val, 0, 0] : Fin 3 → ℕ) a + (![1, 1536, 4096] : Fin 3 → ℕ) a ≤ S16x1536x4096.size a) (k : Fin 1536) (n : Fin 4096) :
    View.ld v (Rect.unit ![e.val, 0, 0] ![1, 1536, 4096] h) (ix3 (0 : Fin 1) k n) = v (ix3 e k n) :=
  congrArg v (funext fun
    | ⟨0, _⟩ => Fin.ext rfl
    | ⟨1, _⟩ => Fin.ext (show 0 + 1 * k.val = k.val by omega)
    | ⟨2, _⟩ => Fin.ext (show 0 + 1 * n.val = n.val by omega))

theorem ld_scales (v : Vec F S16x4096 .f32) (e : Fin 16)
    (h : ∀ a, (![e.val, 0] : Fin 2 → ℕ) a + (![1, 4096] : Fin 2 → ℕ) a ≤ S16x4096.size a) (n : Fin 4096) :
    View.ld v (Rect.unit ![e.val, 0] ![1, 4096] h) (ix2 (0 : Fin 1) n) = v (ix2 e n) :=
  congrArg v (funext fun
    | ⟨0, _⟩ => Fin.ext rfl
    | ⟨1, _⟩ => Fin.ext (show 0 + 1 * n.val = n.val by omega))

/-! ## A step read at an index, over the extended reals -/

theorem bcol {α : Type} {a b : ℕ} (v : (⟨2, ![a, 1]⟩ : Shape).Idx → α) (h : (⟨2, ![a, 1]⟩ : Shape).Broadcasts ⟨2, ![a, b]⟩)
    (r : Fin a) (q : Fin b) : broadcastTo ⟨2, ![a, b]⟩ v h (ix2 r q) = v (ix2 r (0 : Fin 1)) := by
  refine broadcastTo_apply v h (ix2 r q) (ix2 r (0 : Fin 1)) fun ax => ?_
  match ax with
  | ⟨0, _⟩ =>
    show r.val = if a = 1 then 0 else r.val
    split
    · have := r.isLt; omega
    · rfl
  | ⟨1, _⟩ => rfl

theorem cast_same {s : Shape} {α : Type} (x : s.Idx → α) (h : s.ShapeCasts s) : shapeCast s x h = x := by
  funext j
  show x (Shape.reshapeEquiv h j) = x j
  congr 1
  simp [Shape.reshapeEquiv]

theorem mine_iff {lo hi : ℕ} (hlo : lo ≤ 12288) (hhi : hi ≤ 12288) (r : Fin 12288) :
    (andi (cmpi .sge rowsV (broadcast S12288x1 (BitVec.ofNat 32 lo))) (cmpi .slt rowsV (broadcast S12288x1 (BitVec.ofNat 32 hi)))) (ix2 r (0 : Fin 1)) = 1#1
      ↔ lo ≤ r.val ∧ r.val < hi := by
  have hr := r.isLt
  have e : rowsV (ix2 r (0 : Fin 1)) = BitVec.ofNat 32 r.val := by
    show BitVec.ofNat 32 (0 * _ + r.val) = _
    rw [Nat.zero_mul, Nat.zero_add]
  show IntOp.andi (IntOp.cmpi .sge (rowsV (ix2 r (0 : Fin 1))) (BitVec.ofNat 32 lo)) (IntOp.cmpi .slt (rowsV (ix2 r (0 : Fin 1))) (BitVec.ofNat 32 hi)) = 1#1 ↔ _
  rw [e, cmpi_sge_eq, cmpi_slt_eq, toInt_ofNat_of_lt (by omega), toInt_ofNat_of_lt (by omega), toInt_ofNat_of_lt (by omega)]
  simp only [Nat.cast_le, Nat.cast_lt]
  by_cases h1 : lo ≤ r.val <;> by_cases h2 : r.val < hi <;> simp [h1, h2, IntOp.andi]

theorem stepV_apply (x0 : Vec Ideal S12288x1536 .fp8e4m3) (w : Vec Ideal S1x1536x4096 .fp8e4m3) {lo hi : ℕ} (hlo : lo ≤ 12288) (hhi : hi ≤ 12288)
    (xs : Vec Ideal S12288x1 .f32) (ws : Vec Ideal S1x4096 .f32) (y : FVec Ideal S12288x4096 .f32) (r : Fin 12288) (n : Fin 4096) :
    stepV (k0_pay2 x0) w (BitVec.ofNat 32 lo) (BitVec.ofNat 32 hi) xs ws y (ix2 r n)
      = if lo ≤ r.val ∧ r.val < hi then
          (∑ k : Fin 1536, (x0 (ix2 r k) : EReal) * w (ix3 (0 : Fin 1) k n)) * xs (ix2 r (0 : Fin 1)) * ws (ix2 (0 : Fin 1) n)
        else y (ix2 r n) := by
  have hm : matmul (F := Ideal) (φ₁ := .f32) (φ₂ := .f32) dot_S12288x1536_S1536x4096_S12288x4096_1_0_0_1_n_n none (k0_pay2 x0)
      (extf .f32 (shapeCast S1536x4096 w shapeCasts_S1x1536x4096_S1536x4096) bitsLt_fp8e4m3_f32)
      (constant S12288x4096 .f32 0x00000000#32) (ix2 r n) = ∑ k : Fin 1536, (x0 (ix2 r k) : EReal) * w (ix3 (0 : Fin 1) k n) := by
    refine (Ideal.matmul_plain_apply (M := 12288) (K := 1536) (N := 4096) none (k0_pay2 x0) _ _ r n).trans ?_
    have h0 : (constant (F := Ideal) S12288x4096 .f32 0x00000000#32) (ix2 r n) = 0 := Ideal.ofBits_zero_f32
    rw [h0, zero_add]
    exact Finset.sum_congr rfl fun k _ => congrArg ((x0 (ix2 r k) : EReal) * ·) (shapeCast_1ab_ab_apply w _ k n)
  have hb := bcol (a := 12288) (b := 4096) (shapeCast S12288x1
      (andi (cmpi .sge rowsV (broadcast S12288x1 (BitVec.ofNat 32 lo))) (cmpi .slt rowsV (broadcast S12288x1 (BitVec.ofNat 32 hi)))) shapeCasts_S12288x1_S12288x1)
      broadcasts_S12288x1_S12288x4096 r n
  rw [cast_same] at hb
  have hv : ((mulf (mulf (matmul (F := Ideal) dot_S12288x1536_S1536x4096_S12288x4096_1_0_0_1_n_n none (k0_pay2 x0)
        (extf .f32 (shapeCast S1536x4096 w shapeCasts_S1x1536x4096_S1536x4096) bitsLt_fp8e4m3_f32) (constant S12288x4096 .f32 0x00000000#32))
      (broadcastTo S12288x4096 xs broadcasts_S12288x1_S12288x4096))
      (broadcastTo S12288x4096 ws broadcasts_S1x4096_S12288x4096)) (ix2 r n) : EReal)
      = (∑ k : Fin 1536, (x0 (ix2 r k) : EReal) * w (ix3 (0 : Fin 1) k n)) * xs (ix2 r (0 : Fin 1)) * ws (ix2 (0 : Fin 1) n) := by
    show _ * _ * _ = _
    rw [hm]
    congr 1
    · congr 1
      exact bcol (a := 12288) (b := 4096) xs _ r n
    · exact broadcastTo_1b_ab_apply _ _ r n
  unfold stepV
  show Scalar.select (broadcastTo S12288x4096 (shapeCast S12288x1
      (andi (cmpi .sge rowsV (broadcast S12288x1 (BitVec.ofNat 32 lo))) (cmpi .slt rowsV (broadcast S12288x1 (BitVec.ofNat 32 hi)))) shapeCasts_S12288x1_S12288x1)
      broadcasts_S12288x1_S12288x4096 (ix2 r n)) _ (y (ix2 r n)) = _
  rw [cast_same, hb, hv]
  by_cases h : lo ≤ r.val ∧ r.val < hi
  · rw [if_pos h]; exact if_pos ((mine_iff hlo hhi r).mpr h)
  · rw [if_neg h]; exact if_neg fun h' => h ((mine_iff hlo hhi r).mp h')

/-! ## The steps in order -/

section Steps
variable {f : ℕ → ℕ} (hf : cs f 16 = 12288)
  (x0 : Vec Ideal S12288x1536 .fp8e4m3) (xs : Vec Ideal S12288x1 .f32) (w : Vec Ideal S16x1536x4096 .fp8e4m3) (ws : Vec Ideal S16x4096 .f32)

/-- A row's product under its own expert. -/
def prod (r : Fin 12288) (n : Fin 4096) : EReal :=
  (∑ k : Fin 1536, (x0 (ix2 r k) : EReal) * w (ix3 (⟨own f r.val, (own_spec f (hf.symm ▸ r.isLt)).1⟩ : Fin 16) k n)) * xs (ix2 r (0 : Fin 1))
    * ws (ix2 (⟨own f r.val, (own_spec f (hf.symm ▸ r.isLt)).1⟩ : Fin 16) n)

/-- A step of the sixteen: what holds before it of the experts before `e` holds after it of those before `e + 1`. -/
theorem step_row (e : Fin 16) {lo hi : BitVec 32} (elo : lo = BitVec.ofNat 32 (cs f e.val)) (ehi : hi = BitVec.ofNat 32 (cs f (e.val + 1)))
    {we : Vec Ideal S1x1536x4096 .fp8e4m3} (hw : ∀ (k : Fin 1536) (n : Fin 4096), we (ix3 (0 : Fin 1) k n) = w (ix3 e k n))
    {wse : Vec Ideal S1x4096 .f32} (hws : ∀ n : Fin 4096, wse (ix2 (0 : Fin 1) n) = ws (ix2 e n))
    {y : FVec Ideal S12288x4096 .f32} {r : Fin 12288} {n : Fin 4096}
    (hy : (y (ix2 r n) : EReal) = if own f r.val < e.val then prod hf x0 xs w ws r n else 0) :
    (stepV (k0_pay2 x0) we lo hi xs wse y (ix2 r n) : EReal) = if own f r.val < e.val + 1 then prod hf x0 xs w ws r n else 0 := by
  subst elo ehi
  obtain ⟨h16, h1, h2⟩ := own_spec f (hf.symm ▸ r.isLt : r.val < cs f 16)
  rw [stepV_apply x0 we (rows_le hf e.isLt.le) (rows_le hf (show e.val + 1 ≤ 16 from e.isLt)), hy]
  by_cases h : own f r.val = e.val
  · rw [if_pos (⟨h ▸ h1, h ▸ h2⟩), if_pos (by omega)]
    have he : (⟨own f r.val, h16⟩ : Fin 16) = e := Fin.ext h
    unfold prod
    rw [he, hws]
    simp only [hw]
  · rw [if_neg (fun hh => h (own_eq f e.isLt hh.1 hh.2))]
    by_cases hlt : own f r.val < e.val
    · rw [if_pos hlt, if_pos (by omega)]
    · rw [if_neg hlt, if_neg (by omega)]

theorem zero_row (r : Fin 12288) (n : Fin 4096) :
    ((zeroV (F := Ideal)) (ix2 r n) : EReal) = if own f r.val < (0 : Fin 16).val then prod hf x0 xs w ws r n else 0 := by
  rw [if_neg (show ¬ own f r.val < (0 : Fin 16).val from Nat.not_lt_zero _)]
  exact Ideal.ofBits_zero_f32

variable (lo hi : Vec Ideal S16 .i32) (hlo : ∀ e : Fin 16, lo (ix1 e) = BitVec.ofNat 32 (cs f e.val))
  (hhi : ∀ e : Fin 16, hi (ix1 e) = BitVec.ofNat 32 (cs f (e.val + 1)))
include hlo hhi

/-- What the body leaves, at an index. -/
theorem out_apply (c : Dev nD) (arg0 : Memref sig .tc .smem S16 .i32) (harg0 : arg0.IsWhole) (arg1 : Memref sig .tc .smem S16 .i32) (harg1 : arg1.IsWhole)
    (arg2 : Memref sig .tc .vmem S12288x1536 .fp8e4m3) (harg2 : arg2.IsWhole) (arg3 : Memref sig .tc .vmem S12288x1 .f32) (harg3 : arg3.IsWhole)
    (arg4 : Memref sig .tc .vmem S16x1536x4096 .fp8e4m3) (harg4 : arg4.IsWhole) (arg5 : Memref sig .tc .vmem S16x4096 .f32) (harg5 : arg5.IsWhole)
    (arg6 : Memref sig .tc .vmem S12288x4096 .bf16) (harg6 : arg6.IsWhole) (r : Fin 12288) (n : Fin 4096) :
    (out0_A_6 c arg0 harg0 arg1 harg1 arg2 harg2 arg3 harg3 arg4 harg4 arg5 harg5 arg6 harg6 lo hi x0 xs w ws (ix2 r n) : EReal)
      = prod hf x0 xs w ws r n := by
  frame_out
  rw [pay1_eq, pay24_eq, pay21_eq, pay18_eq, pay15_eq, pay12_eq, pay9_eq, pay6_eq, pay3_eq]
  refine Eq.trans (b := (if own f r.val < (15 : Fin 16).val + 1 then prod hf x0 xs w ws r n else 0 : EReal)) ?_
    (if_pos (own_spec f (hf.symm ▸ r.isLt : r.val < cs f 16)).1)
  refine step_row hf x0 xs w ws (15 : Fin 16) ((ld_word lo (15 : Fin 16) _ _).trans (hlo _)) ((ld_word hi (15 : Fin 16) _ _).trans (hhi _))
    (ld_weights w (15 : Fin 16) _) (ld_scales ws (15 : Fin 16) _) ?_
  refine step_row hf x0 xs w ws (14 : Fin 16) ((ld_word lo (14 : Fin 16) _ _).trans (hlo _)) ((ld_word hi (14 : Fin 16) _ _).trans (hhi _))
    (ld_weights w (14 : Fin 16) _) (ld_scales ws (14 : Fin 16) _) ?_
  refine step_row hf x0 xs w ws (13 : Fin 16) ((ld_word lo (13 : Fin 16) _ _).trans (hlo _)) ((ld_word hi (13 : Fin 16) _ _).trans (hhi _))
    (ld_weights w (13 : Fin 16) _) (ld_scales ws (13 : Fin 16) _) ?_
  refine step_row hf x0 xs w ws (12 : Fin 16) ((ld_word lo (12 : Fin 16) _ _).trans (hlo _)) ((ld_word hi (12 : Fin 16) _ _).trans (hhi _))
    (ld_weights w (12 : Fin 16) _) (ld_scales ws (12 : Fin 16) _) ?_
  refine step_row hf x0 xs w ws (11 : Fin 16) ((ld_word lo (11 : Fin 16) _ _).trans (hlo _)) ((ld_word hi (11 : Fin 16) _ _).trans (hhi _))
    (ld_weights w (11 : Fin 16) _) (ld_scales ws (11 : Fin 16) _) ?_
  refine step_row hf x0 xs w ws (10 : Fin 16) ((ld_word lo (10 : Fin 16) _ _).trans (hlo _)) ((ld_word hi (10 : Fin 16) _ _).trans (hhi _))
    (ld_weights w (10 : Fin 16) _) (ld_scales ws (10 : Fin 16) _) ?_
  refine step_row hf x0 xs w ws (9 : Fin 16) ((ld_word lo (9 : Fin 16) _ _).trans (hlo _)) ((ld_word hi (9 : Fin 16) _ _).trans (hhi _))
    (ld_weights w (9 : Fin 16) _) (ld_scales ws (9 : Fin 16) _) ?_
  refine step_row hf x0 xs w ws (8 : Fin 16) ((ld_word lo (8 : Fin 16) _ _).trans (hlo _)) ((ld_word hi (8 : Fin 16) _ _).trans (hhi _))
    (ld_weights w (8 : Fin 16) _) (ld_scales ws (8 : Fin 16) _) ?_
  refine step_row hf x0 xs w ws (7 : Fin 16) ((ld_word lo (7 : Fin 16) _ _).trans (hlo _)) ((ld_word hi (7 : Fin 16) _ _).trans (hhi _))
    (ld_weights w (7 : Fin 16) _) (ld_scales ws (7 : Fin 16) _) ?_
  refine step_row hf x0 xs w ws (6 : Fin 16) ((ld_word lo (6 : Fin 16) _ _).trans (hlo _)) ((ld_word hi (6 : Fin 16) _ _).trans (hhi _))
    (ld_weights w (6 : Fin 16) _) (ld_scales ws (6 : Fin 16) _) ?_
  refine step_row hf x0 xs w ws (5 : Fin 16) ((ld_word lo (5 : Fin 16) _ _).trans (hlo _)) ((ld_word hi (5 : Fin 16) _ _).trans (hhi _))
    (ld_weights w (5 : Fin 16) _) (ld_scales ws (5 : Fin 16) _) ?_
  refine step_row hf x0 xs w ws (4 : Fin 16) ((ld_word lo (4 : Fin 16) _ _).trans (hlo _)) ((ld_word hi (4 : Fin 16) _ _).trans (hhi _))
    (ld_weights w (4 : Fin 16) _) (ld_scales ws (4 : Fin 16) _) ?_
  refine step_row hf x0 xs w ws (3 : Fin 16) ((ld_word lo (3 : Fin 16) _ _).trans (hlo _)) ((ld_word hi (3 : Fin 16) _ _).trans (hhi _))
    (ld_weights w (3 : Fin 16) _) (ld_scales ws (3 : Fin 16) _) ?_
  refine step_row hf x0 xs w ws (2 : Fin 16) ((ld_word lo (2 : Fin 16) _ _).trans (hlo _)) ((ld_word hi (2 : Fin 16) _ _).trans (hhi _))
    (ld_weights w (2 : Fin 16) _) (ld_scales ws (2 : Fin 16) _) ?_
  refine step_row hf x0 xs w ws (1 : Fin 16) ((ld_word lo (1 : Fin 16) _ _).trans (hlo _)) ((ld_word hi (1 : Fin 16) _ _).trans (hhi _))
    (ld_weights w (1 : Fin 16) _) (ld_scales ws (1 : Fin 16) _) ?_
  refine step_row hf x0 xs w ws (0 : Fin 16) ((ld_word lo (0 : Fin 16) _ _).trans (hlo _)) ((ld_word hi (0 : Fin 16) _ _).trans (hhi _))
    (ld_weights w (0 : Fin 16) _) (ld_scales ws (0 : Fin 16) _) ?_
  exact zero_row hf x0 xs w ws r n

end Steps

end Cert.ReferenceIdeal.Hand
end
-- ==== Proof.RefFinal.lean ====
/- The reference's result: every row is its expert's scaled product, when the group sizes add up to the rows. -/
module

public import proofs.«01_k».proof.Proof.RefValue
public import Idealize.ShloMosaic.Lib.StableHlo.RunRead
public import Idealize.ShloMosaic.Lib.Routing.OpsSet
public import Idealize.ShloMosaic.Lib.Routing.Words

@[expose] public section

set_option maxRecDepth 16384

noncomputable section

namespace Cert.ReferenceIdeal.Hand

open Cert.ReferenceIdeal Cert.ReferenceIdeal.Gen
open Idealize.ShloMosaic hiding ix1 ix2 ix3
open Idealize.ShloMosaic.TcCoe Idealize.SL.Sem
open Idealize.ShloMosaic.Pipeline (Dat Cfg Window)
open Idealize.ShloMosaic.ValueIdx Idealize.ShloMosaic.WordCmp
open Cert.KernelIdeal.Hand.Walk (cs cs_mono cs_succ own own_eq own_spec rows_le)

variable (m : (ℓ : Loc nD τ sig) → Buf (Elt Ideal) ℓ) (ρ : Dev nD → PrngReg)

/-! ## The host's words -/

theorem V_main_v0 (c : Dev nD) : V m c main_v0 = (Host.reduceWindow IntOp.addi ![16] ![1] ![15] ![0]
    (m ((c : Thread nD τ).loc main_arg2) : IVec S16 32) (broadcastInDim S_ ![] bcast_S_S_ (constantI S_ 32 0#32) : IVec S_ 32)
    reduceWindows_S16_S16_w16s1p15_0 h_S_ : IVec S16 32) := by
  after_reads_simp
  simp only [StableHlo.TRef.toBuf, StableHlo.TRef.ofBuf, cast_eq]
  try rfl

theorem V_main_v1 (c : Dev nD) : V m c main_v1 = (subi (Host.reduceWindow IntOp.addi ![16] ![1] ![15] ![0]
    (m ((c : Thread nD τ).loc main_arg2) : IVec S16 32) (broadcastInDim S_ ![] bcast_S_S_ (constantI S_ 32 0#32) : IVec S_ 32)
    reduceWindows_S16_S16_w16s1p15_0 h_S_) (m ((c : Thread nD τ).loc main_arg2) : IVec S16 32) : IVec S16 32) := by
  after_reads_simp
  simp only [StableHlo.TRef.toBuf, StableHlo.TRef.ofBuf, cast_eq]
  try rfl

section
variable {f : ℕ → ℕ} (c : Dev nD) (hg : ∀ e : Fin 16, (m ((c : Thread nD τ).loc main_arg2) : IVec S16 32) (ix1 e) = BitVec.ofNat 32 (f e.val))
include hg

theorem ends_ap (e : Fin 16) : (V m c main_v0 : IVec S16 32) (ix1 e) = BitVec.ofNat 32 (cs f (e.val + 1)) := by
  rw [V_main_v0]
  exact Routing.cumsum1 (N := 16) (Nm1 := 15) rfl _ f hg _ rfl _ _ e

theorem starts_ap (hf : cs f 16 = 12288) (e : Fin 16) : (V m c main_v1 : IVec S16 32) (ix1 e) = BitVec.ofNat 32 (cs f e.val) := by
  have b := rows_le hf (show e.val + 1 ≤ 16 from e.isLt)
  have k := cs_succ f e.val
  have h := ends_ap m c hg e
  rw [V_main_v0] at h
  rw [V_main_v1]
  show (_ : BitVec 32) - (_ : BitVec 32) = _
  rw [h, hg]
  apply BitVec.eq_of_toNat_eq
  simp only [BitVec.toNat_sub, BitVec.toNat_ofNat]
  omega

end

/-! ## The windows' blocks: each its whole array -/

theorem blk0 (c : Dev nD) (t : Fin cfg0.N) : iblk m c 0 t = V m c main_v1 :=
  funext fun j => congrArg (V m c main_v1) (funext fun a => Fin.ext (Window.rect_emb_val_of_index_zero (cfg0.win 0) t a rfl j))
theorem blk1 (c : Dev nD) (t : Fin cfg0.N) : iblk m c 1 t = V m c main_v0 :=
  funext fun j => congrArg (V m c main_v0) (funext fun a => Fin.ext (Window.rect_emb_val_of_index_zero (cfg0.win 1) t a rfl j))
theorem blk2 (c : Dev nD) (t : Fin cfg0.N) : iblk m c 2 t = m ((c : Thread nD τ).loc main_arg0) :=
  (funext fun j => congrArg (V m c main_arg0) (funext fun a => Fin.ext (Window.rect_emb_val_of_index_zero (cfg0.win 2) t a rfl j))).trans (V_main_arg0 m c)
theorem blk3 (c : Dev nD) (t : Fin cfg0.N) : iblk m c 3 t = m ((c : Thread nD τ).loc main_arg1) :=
  (funext fun j => congrArg (V m c main_arg1) (funext fun a => Fin.ext (Window.rect_emb_val_of_index_zero (cfg0.win 3) t a rfl j))).trans (V_main_arg1 m c)
theorem blk4 (c : Dev nD) (t : Fin cfg0.N) : iblk m c 4 t = m ((c : Thread nD τ).loc main_arg3) :=
  (funext fun j => congrArg (V m c main_arg3) (funext fun a => Fin.ext (Window.rect_emb_val_of_index_zero (cfg0.win 4) t a rfl j))).trans (V_main_arg3 m c)
theorem blk5 (c : Dev nD) (t : Fin cfg0.N) : iblk m c 5 t = m ((c : Thread nD τ).loc main_arg4) :=
  (funext fun j => congrArg (V m c main_arg4) (funext fun a => Fin.ext (Window.rect_emb_val_of_index_zero (cfg0.win 5) t a rfl j))).trans (V_main_arg4 m c)

theorem cut6 (X : Vec Ideal S12288x4096 .bf16) (j : S12288x4096.Idx) : (cfg0.win 6).cut (grid0.coords t0_0) X j = X j :=
  congrArg X (funext fun a => Fin.ext rfl)

/-- What the one step writes back is what its body leaves. -/
theorem flushed_apply (c : Dev nD) (X : Vec Ideal S12288x4096 .bf16)
    (h : (dats m 0 c).flushed 6 t0_0 = (cfg0.win 6).cut (grid0.coords t0_0) X) (j : S12288x4096.Idx) :
    (dats m 0 c).flushed 6 t0_0 j = X j :=
  (congrFun h j).trans (cut6 X j)

/-- The result array at the end is what the one step writes back. -/
theorem arr_flushed (c : Dev nD) (j : S12288x4096.Idx) : (dats m 0 c).arrAt 6 cfg0.N j = (dats m 0 c).flushed 6 t0_0 j := by
  have hw := (dats m 0 c).arrAt_emb_eq_flushed 6 Value.disjoint6 t0_0 (flush0_6 t0_0) j
  have he : ((cfg0.win 6).blk t0_0).view.emb j = j :=
    funext fun a => Fin.ext (Window.rect_emb_val_of_index_zero (cfg0.win 6) t0_0 a rfl j)
  rw [he] at hw
  exact hw

/-- What the body leaves, of the arguments and the words. -/
def leaves (c : Dev nD) : Vec Ideal S12288x4096 .bf16 :=
  out0_A_6 c (ms0_0 t0_0) (hs0_0 t0_0) (ms0_1 t0_0) (hs0_1 t0_0) (ms0_2 t0_0) (hs0_2 t0_0) (ms0_3 t0_0) (hs0_3 t0_0) (ms0_4 t0_0) (hs0_4 t0_0)
    (ms0_5 t0_0) (hs0_5 t0_0) (ms0_6 t0_0) (hs0_6 t0_0) (V m c main_v1) (V m c main_v0) (m ((c : Thread nD τ).loc main_arg0))
    (m ((c : Thread nD τ).loc main_arg1)) (m ((c : Thread nD τ).loc main_arg3)) (m ((c : Thread nD τ).loc main_arg4))

theorem flushed_eq (c : Dev nD) : (dats m 0 c).flushed 6 t0_0 = (cfg0.win 6).cut (grid0.coords t0_0) (leaves m c) := by
  rewrite [Value.flushed6_A, blk0, blk1, blk2, blk3, blk4, blk5]
  unfold leaves
  rfl

theorem leaves_apply (c : Dev nD) {f : ℕ → ℕ} (hg : ∀ e : Fin 16, (m ((c : Thread nD τ).loc main_arg2) : IVec S16 32) (ix1 e) = BitVec.ofNat 32 (f e.val))
    (hf : cs f 16 = 12288) (r : Fin 12288) (n : Fin 4096) :
    (leaves m c (ix2 r n) : EReal)
      = prod hf (m ((c : Thread nD τ).loc main_arg0)) (m ((c : Thread nD τ).loc main_arg1)) (m ((c : Thread nD τ).loc main_arg3))
          (m ((c : Thread nD τ).loc main_arg4)) r n := by
  unfold leaves
  exact out_apply hf (m ((c : Thread nD τ).loc main_arg0)) (m ((c : Thread nD τ).loc main_arg1)) (m ((c : Thread nD τ).loc main_arg3))
    (m ((c : Thread nD τ).loc main_arg4)) (V m c main_v1) (V m c main_v0) (starts_ap m c hg hf) (ends_ap m c hg) c
    (ms0_0 t0_0) (hs0_0 t0_0) (ms0_1 t0_0) (hs0_1 t0_0) (ms0_2 t0_0) (hs0_2 t0_0) (ms0_3 t0_0) (hs0_3 t0_0) (ms0_4 t0_0) (hs0_4 t0_0)
    (ms0_5 t0_0) (hs0_5 t0_0) (ms0_6 t0_0) (hs0_6 t0_0) r n

/-- The result array at the end, at an index. -/
theorem arr_apply (c : Dev nD) {f : ℕ → ℕ} (hg : ∀ e : Fin 16, (m ((c : Thread nD τ).loc main_arg2) : IVec S16 32) (ix1 e) = BitVec.ofNat 32 (f e.val))
    (hf : cs f 16 = 12288) (r : Fin 12288) (n : Fin 4096) :
    ((dats m 0 c).arrAt 6 cfg0.N (ix2 r n) : EReal)
      = prod hf (m ((c : Thread nD τ).loc main_arg0)) (m ((c : Thread nD τ).loc main_arg1)) (m ((c : Thread nD τ).loc main_arg3))
          (m ((c : Thread nD τ).loc main_arg4)) r n :=
  (arr_flushed m c (ix2 r n)).trans ((flushed_apply m c (leaves m c) (flushed_eq m c) (ix2 r n)).trans (leaves_apply m c hg hf r n))

end Cert.ReferenceIdeal.Hand
end
-- ==== Proof.Sizes.lean ====
/- What the precondition gives: the group sizes hold natural numbers that add up to the number of rows. -/
module

public import proofs.«01_k».proof.Pre_sizes_cover_rows
public import proofs.«01_k».proof.Proof.Walk
public import Idealize.ShloMosaic.Lib.ReduceAll
public import Idealize.ShloMosaic.Lib.Affine
public import Idealize.ShloMosaic.Lib.Routing.Ops

@[expose] public section

noncomputable section

namespace Cert.Pre_sizes_cover_rows

open Idealize.ShloMosaic
open Idealize.ShloMosaic.ValueIdx
open Cert.KernelIdeal.Hand.Walk (cs)

theorem facts : Facts := ⟨by decide, by decide, by decide⟩

/-- The natural number each group size holds. -/
def szN (g : IVec S16 32) (e : ℕ) : ℕ := if h : e < 16 then (g (ix1 (⟨e, h⟩ : Fin 16))).toNat else 0

theorem szN_ap (g : IVec S16 32) (e : Fin 16) : g (ix1 e) = BitVec.ofNat 32 (szN g e.val) := by
  unfold szN
  rw [dif_pos e.isLt]
  exact (BitVec.ofNat_toNat 32 _).trans (BitVec.setWidth_eq _) |>.symm

theorem sum_range_le (f : ℕ → ℕ) (b : ℕ) (h : ∀ e, f e ≤ b) (n : ℕ) : cs f n ≤ n * b := by
  induction n with
  | zero => exact Nat.zero_le _
  | succ n ih =>
    rw [Cert.KernelIdeal.Hand.Walk.cs_succ, Nat.succ_mul]
    exact Nat.add_le_add ih (h n)

/-- A word between 0 and 12288, read signed, is at most 12288. -/
theorem toNat_le_of_signed (x : BitVec 32) (h0 : (0#32 : BitVec 32).toInt ≤ x.toInt) (h1 : x.toInt ≤ (12288#32 : BitVec 32).toInt) : x.toNat ≤ 12288 := by
  have z : (0#32 : BitVec 32).toInt = 0 := by decide
  have q : (12288#32 : BitVec 32).toInt = 12288 := by decide
  rw [z] at h0
  rw [q] at h1
  have := x.isLt
  rw [BitVec.toInt_eq_toNat_cond] at h0 h1
  split at h0 <;> omega

instance : Subsingleton S_.Idx := ⟨fun a b => funext fun i => i.elim0⟩

/-- Under the precondition the group sizes add up to the rows. -/
theorem covers [Facts] {F : FTy → Type} [FloatOps F] (a0 : FVec F S12288x1536 .fp8e4m3) (a1 : FVec F S12288x1 .f32) (g : IVec S16 32)
    (a3 : FVec F S16x1536x4096 .fp8e4m3) (a4 : FVec F S16x4096 .f32)
    (h : fn (F := F) a0 a1 g a3 a4 = fun _ => 1#1) : cs (szN g) 16 = 12288 := by
  have e := congrFun h ix0
  dsimp only [fn] at e
  obtain ⟨ha, hs⟩ := IntOp.andi_eq_one.1 e
  have hall := Host.reduce_andi_all _ _ _ _ _ ha
  have hle : ∀ k, szN g k ≤ 12288 := by
    intro k
    unfold szN
    split
    · next hk =>
      obtain ⟨p, q⟩ := IntOp.andi_eq_one.1 (hall (ix1 (⟨k, hk⟩ : Fin 16)))
      exact toNat_le_of_signed _ (IntOp.cmpi_sge.1 p) (IntOp.cmpi_sle.1 q)
    · exact Nat.zero_le _
  have hb := sum_range_le (szN g) 12288 hle 16
  have hsum : Host.reduce IntOp.addi g (constantI S_ 32 0#32) Facts.reducesTo_S16_S_d0 Facts.h_S_ ix0 = 12288#32 := IntOp.cmpi_eq.1 hs
  rw [show Host.reduce IntOp.addi g (constantI S_ 32 0#32) Facts.reducesTo_S16_S_d0 Facts.h_S_ ix0 = BitVec.ofNat 32 (cs (szN g) 16) from
    Routing.reduce_sum (N := 16) g (szN g) (szN_ap g) _ _] at hsum
  have hn := congrArg BitVec.toNat hsum
  rw [BitVec.toNat_ofNat, BitVec.toNat_ofNat] at hn
  omega

end Cert.Pre_sizes_cover_rows
end
-- ==== Proof.Value.lean ====
/- The two runs' results, when the group sizes add up to the rows: one and the same array of scaled products. -/
module

public import proofs.«01_k».proof.Defs
public import proofs.«01_k».proof.Proof.Final
public import proofs.«01_k».proof.Proof.RefFinal
public import proofs.«01_k».proof.Proof.Sizes

@[expose] public section

set_option maxRecDepth 16384

noncomputable section

namespace Cert.KernelIdeal.Hand

open Cert.KernelIdeal Cert.KernelIdeal.Gen
open Idealize.ShloMosaic hiding ix1 ix2 ix3
open Idealize.ShloMosaic.TcCoe Idealize.SL.Sem
open Idealize.ShloMosaic.Pipeline (RDat)
open Idealize.ShloMosaic.ValueIdx

variable (m : (ℓ : Loc nD τ sig) → Buf (Elt Ideal) ℓ) (ρ : Dev nD → PrngReg) {f : ℕ → ℕ}

/-- The result array. -/
def result (hf : Walk.cs f 16 = 12288) (c : Dev nD) : Vec Ideal S12288x4096 .bf16 := fun i => goal m hf c (i 0) (i 1)

theorem result_ix2 (hf : Walk.cs f 16 = 12288) (c : Dev nD) (r : Fin 12288) (n : Fin 4096) : result m hf c (ix2 r n) = goal m hf c r n := rfl

/-- Two arrays of the result's shape that agree at every pair of coordinates are one. -/
theorem ext_ix2 {A B : Vec Ideal S12288x4096 .bf16} (h : ∀ (r : Fin 12288) (n : Fin 4096), A (ix2 r n) = B (ix2 r n)) : A = B :=
  funext fun i => by
    have e : i = ix2 (i 0) (i 1) := ValueIdx.eq_ix2 (n0 := 12288) (n1 := 4096) i
    exact (congrArg A e).trans ((h (i 0) (i 1)).trans (congrArg B e.symm))

theorem run_value (hg : ∀ e : Fin 16, gs m (ix1 e) = BitVec.ofNat 32 (f e.val)) (hf : Walk.cs f 16 = 12288) :
    θ_run defs (onTc (τ := τ) (main (F := Ideal))) ⟨m, fun _ => 0, ρ⟩ (fun r => ∀ c : Dev nD,
      r.2.mem ((c.tc : Thread nD τ).loc main_v65) = result m hf c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun r h c => ⟨ext_ix2 fun row n => final_at m hg hf h.1 c row n, args_kept m (Rb m) h.1 c⟩)
    (run_main m ρ (Rb m) (body_val m))

end Cert.KernelIdeal.Hand

namespace Cert.ReferenceIdeal.Hand

open Cert.ReferenceIdeal Cert.ReferenceIdeal.Gen
open Idealize.ShloMosaic hiding ix1 ix2 ix3
open Idealize.ShloMosaic.TcCoe Idealize.SL.Sem
open Idealize.ShloMosaic.ValueIdx
open Cert.KernelIdeal.Hand.Walk (cs)

variable (m : (ℓ : Loc nD τ sig) → Buf (Elt Ideal) ℓ) (ρ : Dev nD → PrngReg) {f : ℕ → ℕ}

/-- The result array. -/
def result (hf : cs f 16 = 12288) (c : Dev nD) : Vec Ideal S12288x4096 .bf16 := fun i =>
  prod hf (m ((c : Thread nD τ).loc main_arg0)) (m ((c : Thread nD τ).loc main_arg1)) (m ((c : Thread nD τ).loc main_arg3))
    (m ((c : Thread nD τ).loc main_arg4)) (i 0) (i 1)

theorem run_value (hg : ∀ (c : Dev nD) (e : Fin 16), (m ((c : Thread nD τ).loc main_arg2) : IVec S16 32) (ix1 e) = BitVec.ofNat 32 (f e.val))
    (hf : cs f 16 = 12288) :
    θ_run defs (onTc (τ := τ) (main (F := Ideal))) ⟨m, fun _ => 0, ρ⟩ (fun r => ∀ c : Dev nD,
      r.2.mem ((c.tc : Thread nD τ).loc main_v2) = result m hf c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun r h c => ⟨(h c).1.trans (Cert.KernelIdeal.Hand.ext_ix2 fun row n => arr_apply m c (hg c) hf row n), (h c).2⟩)
    (Value.run_blocks m ρ)

end Cert.ReferenceIdeal.Hand

namespace Cert.Proof

open Idealize.ShloMosaic
open Cert.KernelIdeal.Hand.Walk (cs)

/-- Where the arguments agree, the two result arrays do. -/
theorem result_eq {f : ℕ → ℕ} (hf : cs f 16 = 12288)
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Hand.result m' hf c = Cert.KernelIdeal.Hand.result m hf c := by
  unfold Cert.ReferenceIdeal.Hand.result Cert.KernelIdeal.Hand.result Cert.KernelIdeal.Hand.goal
  rw [h0, h1, h3, h4]
  rfl

end Cert.Proof
end
-- ==== Proof.lean ====
module

public import proofs.«01_k».proof.Defs
public import proofs.«01_k».proof.Proof.Gen.ReferenceIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frame
public import proofs.«01_k».proof.Proof.Bits.Frame
public import proofs.«01_k».proof.Proof.Value
public import Idealize.ShloMosaic.Adequacy
public import Idealize.ShloMosaic.Init

@[expose] public section

noncomputable section

namespace Cert.Proof

open Idealize.ShloMosaic Idealize.SL.Sem Cert.Kernel

/-- Where the group sizes add up to the rows both programs end with every row its own expert's scaled product. -/
theorem algebraic [hPre : Cert.Pre_sizes_cover_rows.Facts] :
    Cert.algebraic_KernelIdeal_ReferenceIdeal_pre_sizes_cover_rows (hKernelIdeal := Cert.KernelIdeal.Gen.facts)
      (hReferenceIdeal := Cert.ReferenceIdeal.Gen.facts) := by
  intro m g m' g' hpre hargs
  have hf := Cert.Pre_sizes_cover_rows.covers _ _ _ _ _ (hpre 0)
  refine ⟨fun c => Cert.KernelIdeal.Hand.result m hf c,
    Cert.KernelIdeal.Hand.run_value m g (fun e => Cert.Pre_sizes_cover_rows.szN_ap _ e) hf, ?_⟩
  refine (θ_run _ _ _).mono (fun r h c => ⟨(h c).1.trans ?_, (h c).2⟩)
    (Cert.ReferenceIdeal.Hand.run_value m' g' (fun c e => ?_) hf)
  · obtain rfl : c = 0 := Subsingleton.elim _ _
    exact (congrFun (hargs 0).2.2.1 _).trans (Cert.Pre_sizes_cover_rows.szN_ap _ e)
  · exact result_eq hf m m' c (hargs c).1 (hargs c).2.1 (hargs c).2.2.2.1 (hargs c).2.2.2.2

theorem claim : Cert.Claim := ⟨Cert.Kernel.Gen.facts, Cert.KernelIdeal.Gen.facts, Cert.ReferenceIdeal.Gen.facts, Cert.Pre_sizes_cover_rows.facts,
  fun m g _ => Cert.Kernel.Hand.frame m g, fun m g _ => Cert.KernelIdeal.Hand.frame m g, fun m g _ => Cert.KernelIdeal.Hand.frame m g,
  fun m g _ => Cert.ReferenceIdeal.Gen.frame m g, fun m g _ => Cert.ReferenceIdeal.Gen.frame m g, trivial,
  algebraic (hPre := Cert.Pre_sizes_cover_rows.facts)⟩

end Cert.Proof

end
